-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_zero_noise_finite [hPre_gates_zero_noise_finite : Cert.Pre_gates_zero_noise_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_zero_noise_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_gates_zero_noise_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_gates_zero_noise_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_zero_noise_finite [hPre_gates_zero_noise_finite : Cert.Pre_gates_zero_noise_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_zero_noise_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_gates_zero_noise_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_gates_zero_noise_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_zero_noise_finite [hKernelIdeal : Cert.KernelIdeal.Facts] [hPre_gates_zero_noise_finite : Cert.Pre_gates_zero_noise_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_zero_noise_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_zero_noise_finite [hReferenceIdeal : Cert.ReferenceIdeal.Facts] [hPre_gates_zero_noise_finite : Cert.Pre_gates_zero_noise_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_zero_noise_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "gate_scale" .f32 0x3F7FFFEF#32 ((8796093022208 / 8796101818301 : ℝ) : EReal)

def algebraic_KernelIdeal_ReferenceIdeal_pre_gates_zero_noise_finite [hKernelIdeal : Cert.KernelIdeal.Facts] [hReferenceIdeal : Cert.ReferenceIdeal.Facts] [hPre_gates_zero_noise_finite : Cert.Pre_gates_zero_noise_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_zero_noise_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gates_zero_noise_finite : Cert.Pre_gates_zero_noise_finite.Facts),
    quiescent_Kernel (hKernel := hKernel)
    ∧ quiescent_KernelIdeal (hKernelIdeal := hKernelIdeal)
    ∧ quiescent_KernelIdeal_pre_gates_zero_noise_finite (hKernelIdeal := hKernelIdeal) (hPre_gates_zero_noise_finite := hPre_gates_zero_noise_finite)
    ∧ quiescent_ReferenceIdeal (hReferenceIdeal := hReferenceIdeal)
    ∧ quiescent_ReferenceIdeal_pre_gates_zero_noise_finite (hReferenceIdeal := hReferenceIdeal) (hPre_gates_zero_noise_finite := hPre_gates_zero_noise_finite)
    ∧ preserves_Kernel_KernelIdeal
    ∧ algebraic_KernelIdeal_ReferenceIdeal_pre_gates_zero_noise_finite (hKernelIdeal := hKernelIdeal) (hReferenceIdeal := hReferenceIdeal) (hPre_gates_zero_noise_finite := hPre_gates_zero_noise_finite)
-- ==== Pre_gates_zero_noise_finite.lean ====
abbrev S4096x1024 : Shape := ⟨2, ![4096, 1024]⟩
abbrev S1024x8 : Shape := ⟨2, ![1024, 8]⟩
abbrev S1024x1024 : Shape := ⟨2, ![1024, 1024]⟩
abbrev S1024 : Shape := ⟨1, ![1024]⟩
abbrev S4096x8 : Shape := ⟨2, ![4096, 8]⟩
abbrev S_ : Shape := ⟨0, ![]⟩

class Facts : Prop where
  bcast_S_S1024x8 : S_.BroadcastsInDim S1024x8 (![] : Fin 0 → Fin S1024x8.rank)
  bcast_S_S4096x8 : S_.BroadcastsInDim S4096x8 (![] : Fin 0 → Fin S4096x8.rank)

variable [Facts]

def fn {F : FTy → Type} [FloatOps F] (main_arg0 : FVec F S4096x1024 .f32) (main_arg1 : FVec F S1024x8 .f32) (main_arg2 : FVec F S1024x8 .f32) (main_arg3 : FVec F S1024x1024 .f32) (main_arg4 : FVec F S1024 .f32) (main_arg5 : FVec F S4096x8 .f32) : IVec S1024x8 1 × IVec S1024x8 1 × IVec S4096x8 1 :=
  let main_cst : FVec F S_ .f32 := constant S_ .f32 0x00000000#32
  let main_v0 : FVec F S1024x8 .f32 := broadcastInDim S1024x8 ![] bcast_S_S1024x8 main_cst
  let main_v1 : IVec S1024x8 1 := cmpf .oeq main_arg1 main_v0
  let main_cst_0 : FVec F S_ .f32 := constant S_ .f32 0x00000000#32
  let main_v2 : FVec F S1024x8 .f32 := broadcastInDim S1024x8 ![] bcast_S_S1024x8 main_cst_0
  let main_v3 : IVec S1024x8 1 := cmpf .oeq main_arg2 main_v2
  let main_v4 : FVec F S4096x8 .f32 := Host.absf main_arg5
  let main_cst_1 : FVec F S_ .f32 := constant S_ .f32 0x7F800000#32
  let main_v5 : FVec F S4096x8 .f32 := broadcastInDim S4096x8 ![] bcast_S_S4096x8 main_cst_1
  let main_v6 : IVec S4096x8 1 := cmpf .olt main_v4 main_v5
  (main_v1, main_v3, main_v6)
-- ==== Kernel.lean ====
abbrev S4096x1024 : Shape := ⟨2, ![4096, 1024]⟩
abbrev S1024x8 : Shape := ⟨2, ![1024, 8]⟩
abbrev S1024x1024 : Shape := ⟨2, ![1024, 1024]⟩
abbrev S1024 : Shape := ⟨1, ![1024]⟩
abbrev S4096x8 : Shape := ⟨2, ![4096, 8]⟩
abbrev S1x1024 : Shape := ⟨2, ![1, 1024]⟩
abbrev S8x4096 : Shape := ⟨2, ![8, 4096]⟩
abbrev S1x1 : Shape := ⟨2, ![1, 1]⟩
abbrev S4096 : Shape := ⟨1, ![4096]⟩
abbrev S1x4096 : Shape := ⟨2, ![1, 4096]⟩
abbrev S8 : Shape := ⟨1, ![8]⟩
abbrev S8x1 : Shape := ⟨2, ![8, 1]⟩
abbrev S1 : Shape := ⟨1, ![1]⟩
abbrev S8x512x1024 : Shape := ⟨3, ![8, 512, 1024]⟩
abbrev S2x512x1024 : Shape := ⟨3, ![2, 512, 1024]⟩
abbrev S2 : Shape := ⟨1, ![2]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S1024x8, .f32⟩
  | .hbm, ⟨3, _⟩ => ⟨S1024x1024, .f32⟩
  | .hbm, ⟨4, _⟩ => ⟨S1024, .f32⟩
  | .hbm, ⟨5, _⟩ => ⟨S4096x8, .f32⟩
  | .hbm, ⟨6, _⟩ => ⟨S1x1024, .f32⟩
  | .hbm, ⟨7, _⟩ => ⟨S8x4096, .f32⟩
  | .hbm, ⟨8, _⟩ => ⟨S4096x1024, .f32⟩
  | .hbm, ⟨9, _⟩ => ⟨S1x1, .f32⟩
  | .hbm, ⟨10, _⟩ => ⟨S_, .f32⟩
  | .local _ .vmem, ⟨0, _⟩ => ⟨S1024x1024, .f32⟩
  | .local _ .vmem, ⟨1, _⟩ => ⟨S1x1024, .f32⟩
  | .local _ .vmem, ⟨2, _⟩ => ⟨S8x4096, .f32⟩
  | .local _ .vmem, ⟨3, _⟩ => ⟨S1x1, .f32⟩
  | .local _ .vmem, ⟨4, _⟩ => ⟨S8x512x1024, .f32⟩
  | .local _ .vmem, ⟨5, _⟩ => ⟨S2x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_63_r0 : BitVec 32 := 0#32
  let c8_i32_64_r0 : BitVec 32 := 8#32
  let v104_r0 : BitVec 32 := Scalar.remui c0_i32_63_r0 c8_i32_64_r0
  ![v104_r0.toNat]
def k0_off2 : Fin 3 → Nat :=
  let c0_i32_63_r0 : BitVec 32 := 0#32
  let c8_i32_64_r0 : BitVec 32 := 8#32
  let v104_r0 : BitVec 32 := Scalar.remui c0_i32_63_r0 c8_i32_64_r0
  let c0_i32_65_r0 : BitVec 32 := 0#32
  let c0_i32_66_r0 : BitVec 32 := 0#32
  ![v104_r0.toNat, 0, 0]
def k0_cond1 : BitVec 1 :=
  let true_72_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c0_i32_27_r0 : BitVec 32 := 0#32
  let v68_r0 : BitVec 32 := Scalar.addi v67_r0 c0_i32_27_r0
  let c0_i32_71_r0 : BitVec 32 := 0#32
  let v111_r0 : BitVec 1 := Scalar.cmpi .ne v68_r0 c0_i32_71_r0
  let v112_r0 : BitVec 1 := Scalar.andi true_72_r0 v111_r0
  let true_73_r0 : BitVec 1 := 1#1
  let v113_r0 : BitVec 1 := Scalar.andi v112_r0 true_73_r0
  let v114_r0 : BitVec 32 := Scalar.extui v113_r0
  let c0_i32_74_r0 : BitVec 32 := 0#32
  let v115_r0 : BitVec 1 := Scalar.cmpi .ne v114_r0 c0_i32_74_r0
  v115_r0

def k0_off3 : Fin 1 → Nat :=
  let c0_i32_69_r0 : BitVec 32 := 0#32
  let c1_i32_70_r0 : BitVec 32 := 1#32
  let v110_r0 : BitVec 32 := Scalar.addi c0_i32_69_r0 c1_i32_70_r0
  let c8_i32_157_r0 : BitVec 32 := 8#32
  let v212_r0 : BitVec 32 := Scalar.remui v110_r0 c8_i32_157_r0
  ![v212_r0.toNat]
def k0_off4 : Fin 3 → Nat :=
  let c0_i32_69_r0 : BitVec 32 := 0#32
  let c1_i32_70_r0 : BitVec 32 := 1#32
  let v110_r0 : BitVec 32 := Scalar.addi c0_i32_69_r0 c1_i32_70_r0
  let c8_i32_157_r0 : BitVec 32 := 8#32
  let v212_r0 : BitVec 32 := Scalar.remui v110_r0 c8_i32_157_r0
  let c0_i32_159_r0 : BitVec 32 := 0#32
  let c0_i32_160_r0 : BitVec 32 := 0#32
  ![v212_r0.toNat, 0, 0]
def k0_off5 : Fin 2 → Nat :=
  let c512_i32_158_r0 : BitVec 32 := 512#32
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c0_i32_27_r0 : BitVec 32 := 0#32
  let v68_r0 : BitVec 32 := Scalar.addi v67_r0 c0_i32_27_r0
  let v213_r0 : BitVec 32 := Scalar.muli c512_i32_158_r0 v68_r0
  let c0_i32_161_r0 : BitVec 32 := 0#32
  ![v213_r0.toNat, 0]
def k0_cond2 : BitVec 1 :=
  let true_76_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c0_i32_32_r0 : BitVec 32 := 0#32
  let v73_r0 : BitVec 32 := Scalar.addi v72_r0 c0_i32_32_r0
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_77_r0 : BitVec 1 := 1#1
  let v120_r0 : BitVec 1 := Scalar.andi v119_r0 true_77_r0
  let v121_r0 : BitVec 32 := Scalar.extui v120_r0
  let c0_i32_78_r0 : BitVec 32 := 0#32
  let v122_r0 : BitVec 1 := Scalar.cmpi .ne v121_r0 c0_i32_78_r0
  v122_r0

def k0_off6 : Fin 1 → Nat :=
  let true_72_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c0_i32_27_r0 : BitVec 32 := 0#32
  let v68_r0 : BitVec 32 := Scalar.addi v67_r0 c0_i32_27_r0
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c8_i32_157_r0 : BitVec 32 := 8#32
  let v212_r0 : BitVec 32 := Scalar.remui v117_r0 c8_i32_157_r0
  ![v212_r0.toNat]
def k0_off7 : Fin 3 → Nat :=
  let true_72_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c0_i32_27_r0 : BitVec 32 := 0#32
  let v68_r0 : BitVec 32 := Scalar.addi v67_r0 c0_i32_27_r0
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c8_i32_157_r0 : BitVec 32 := 8#32
  let v212_r0 : BitVec 32 := Scalar.remui v117_r0 c8_i32_157_r0
  let c0_i32_159_r0 : BitVec 32 := 0#32
  let c0_i32_160_r0 : BitVec 32 := 0#32
  ![v212_r0.toNat, 0, 0]
def k0_off8 : Fin 2 → Nat :=
  let c512_i32_158_r0 : BitVec 32 := 512#32
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c0_i32_32_r0 : BitVec 32 := 0#32
  let v73_r0 : BitVec 32 := Scalar.addi v72_r0 c0_i32_32_r0
  let v213_r0 : BitVec 32 := Scalar.muli c512_i32_158_r0 v73_r0
  let c0_i32_161_r0 : BitVec 32 := 0#32
  ![v213_r0.toNat, 0]
def k0_cond3 : BitVec 1 :=
  let true_80_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c0_i32_37_r0 : BitVec 32 := 0#32
  let v78_r0 : BitVec 32 := Scalar.addi v77_r0 c0_i32_37_r0
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_81_r0 : BitVec 1 := 1#1
  let v127_r0 : BitVec 1 := Scalar.andi v126_r0 true_81_r0
  let v128_r0 : BitVec 32 := Scalar.extui v127_r0
  let c0_i32_82_r0 : BitVec 32 := 0#32
  let v129_r0 : BitVec 1 := Scalar.cmpi .ne v128_r0 c0_i32_82_r0
  v129_r0

def k0_off9 : Fin 1 → Nat :=
  let true_76_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c0_i32_32_r0 : BitVec 32 := 0#32
  let v73_r0 : BitVec 32 := Scalar.addi v72_r0 c0_i32_32_r0
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c8_i32_157_r0 : BitVec 32 := 8#32
  let v212_r0 : BitVec 32 := Scalar.remui v124_r0 c8_i32_157_r0
  ![v212_r0.toNat]
def k0_off10 : Fin 3 → Nat :=
  let true_76_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c0_i32_32_r0 : BitVec 32 := 0#32
  let v73_r0 : BitVec 32 := Scalar.addi v72_r0 c0_i32_32_r0
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c8_i32_157_r0 : BitVec 32 := 8#32
  let v212_r0 : BitVec 32 := Scalar.remui v124_r0 c8_i32_157_r0
  let c0_i32_159_r0 : BitVec 32 := 0#32
  let c0_i32_160_r0 : BitVec 32 := 0#32
  ![v212_r0.toNat, 0, 0]
def k0_off11 : Fin 2 → Nat :=
  let c512_i32_158_r0 : BitVec 32 := 512#32
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c0_i32_37_r0 : BitVec 32 := 0#32
  let v78_r0 : BitVec 32 := Scalar.addi v77_r0 c0_i32_37_r0
  let v213_r0 : BitVec 32 := Scalar.muli c512_i32_158_r0 v78_r0
  let c0_i32_161_r0 : BitVec 32 := 0#32
  ![v213_r0.toNat, 0]
def k0_cond4 : BitVec 1 :=
  let true_84_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c0_i32_42_r0 : BitVec 32 := 0#32
  let v83_r0 : BitVec 32 := Scalar.addi v82_r0 c0_i32_42_r0
  let c0_i32_37_r0 : BitVec 32 := 0#32
  let v78_r0 : BitVec 32 := Scalar.addi v77_r0 c0_i32_37_r0
  let v132_r0 : BitVec 1 := Scalar.cmpi .ne v83_r0 v78_r0
  let v133_r0 : BitVec 1 := Scalar.andi true_84_r0 v132_r0
  let true_85_r0 : BitVec 1 := 1#1
  let v134_r0 : BitVec 1 := Scalar.andi v133_r0 true_85_r0
  let v135_r0 : BitVec 32 := Scalar.extui v134_r0
  let c0_i32_86_r0 : BitVec 32 := 0#32
  let v136_r0 : BitVec 1 := Scalar.cmpi .ne v135_r0 c0_i32_86_r0
  v136_r0

def k0_off12 : Fin 1 → Nat :=
  let true_80_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c0_i32_37_r0 : BitVec 32 := 0#32
  let v78_r0 : BitVec 32 := Scalar.addi v77_r0 c0_i32_37_r0
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c8_i32_157_r0 : BitVec 32 := 8#32
  let v212_r0 : BitVec 32 := Scalar.remui v131_r0 c8_i32_157_r0
  ![v212_r0.toNat]
def k0_off13 : Fin 3 → Nat :=
  let true_80_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c0_i32_37_r0 : BitVec 32 := 0#32
  let v78_r0 : BitVec 32 := Scalar.addi v77_r0 c0_i32_37_r0
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c8_i32_157_r0 : BitVec 32 := 8#32
  let v212_r0 : BitVec 32 := Scalar.remui v131_r0 c8_i32_157_r0
  let c0_i32_159_r0 : BitVec 32 := 0#32
  let c0_i32_160_r0 : BitVec 32 := 0#32
  ![v212_r0.toNat, 0, 0]
def k0_off14 : Fin 2 → Nat :=
  let c512_i32_158_r0 : BitVec 32 := 512#32
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c0_i32_42_r0 : BitVec 32 := 0#32
  let v83_r0 : BitVec 32 := Scalar.addi v82_r0 c0_i32_42_r0
  let v213_r0 : BitVec 32 := Scalar.muli c512_i32_158_r0 v83_r0
  let c0_i32_161_r0 : BitVec 32 := 0#32
  ![v213_r0.toNat, 0]
def k0_cond5 : BitVec 1 :=
  let true_88_r0 : BitVec 1 := 1#1
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c0_i32_47_r0 : BitVec 32 := 0#32
  let v88_r0 : BitVec 32 := Scalar.addi v87_r0 c0_i32_47_r0
  let c0_i32_42_r0 : BitVec 32 := 0#32
  let v83_r0 : BitVec 32 := Scalar.addi v82_r0 c0_i32_42_r0
  let v139_r0 : BitVec 1 := Scalar.cmpi .ne v88_r0 v83_r0
  let v140_r0 : BitVec 1 := Scalar.andi true_88_r0 v139_r0
  let true_89_r0 : BitVec 1 := 1#1
  let v141_r0 : BitVec 1 := Scalar.andi v140_r0 true_89_r0
  let v142_r0 : BitVec 32 := Scalar.extui v141_r0
  let c0_i32_90_r0 : BitVec 32 := 0#32
  let v143_r0 : BitVec 1 := Scalar.cmpi .ne v142_r0 c0_i32_90_r0
  v143_r0

def k0_off15 : Fin 1 → Nat :=
  let true_84_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c0_i32_42_r0 : BitVec 32 := 0#32
  let v83_r0 : BitVec 32 := Scalar.addi v82_r0 c0_i32_42_r0
  let c0_i32_37_r0 : BitVec 32 := 0#32
  let v78_r0 : BitVec 32 := Scalar.addi v77_r0 c0_i32_37_r0
  let v132_r0 : BitVec 1 := Scalar.cmpi .ne v83_r0 v78_r0
  let v133_r0 : BitVec 1 := Scalar.andi true_84_r0 v132_r0
  let true_80_r0 : BitVec 1 := 1#1
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c1_i32_87_r0 : BitVec 32 := 1#32
  let v137_r0 : BitVec 32 := Scalar.addi v131_r0 c1_i32_87_r0
  let v138_r0 : BitVec 32 := Scalar.select v133_r0 v137_r0 v131_r0
  let c8_i32_157_r0 : BitVec 32 := 8#32
  let v212_r0 : BitVec 32 := Scalar.remui v138_r0 c8_i32_157_r0
  ![v212_r0.toNat]
def k0_off16 : Fin 3 → Nat :=
  let true_84_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c0_i32_42_r0 : BitVec 32 := 0#32
  let v83_r0 : BitVec 32 := Scalar.addi v82_r0 c0_i32_42_r0
  let c0_i32_37_r0 : BitVec 32 := 0#32
  let v78_r0 : BitVec 32 := Scalar.addi v77_r0 c0_i32_37_r0
  let v132_r0 : BitVec 1 := Scalar.cmpi .ne v83_r0 v78_r0
  let v133_r0 : BitVec 1 := Scalar.andi true_84_r0 v132_r0
  let true_80_r0 : BitVec 1 := 1#1
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c1_i32_87_r0 : BitVec 32 := 1#32
  let v137_r0 : BitVec 32 := Scalar.addi v131_r0 c1_i32_87_r0
  let v138_r0 : BitVec 32 := Scalar.select v133_r0 v137_r0 v131_r0
  let c8_i32_157_r0 : BitVec 32 := 8#32
  let v212_r0 : BitVec 32 := Scalar.remui v138_r0 c8_i32_157_r0
  let c0_i32_159_r0 : BitVec 32 := 0#32
  let c0_i32_160_r0 : BitVec 32 := 0#32
  ![v212_r0.toNat, 0, 0]
def k0_off17 : Fin 2 → Nat :=
  let c512_i32_158_r0 : BitVec 32 := 512#32
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c0_i32_47_r0 : BitVec 32 := 0#32
  let v88_r0 : BitVec 32 := Scalar.addi v87_r0 c0_i32_47_r0
  let v213_r0 : BitVec 32 := Scalar.muli c512_i32_158_r0 v88_r0
  let c0_i32_161_r0 : BitVec 32 := 0#32
  ![v213_r0.toNat, 0]
def k0_cond6 : BitVec 1 :=
  let true_92_r0 : BitVec 1 := 1#1
  let true_49_r0 : BitVec 1 := 1#1
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c1_i32_48_r0 : BitVec 32 := 1#32
  let v89_r0 : BitVec 32 := Scalar.addi v87_r0 c1_i32_48_r0
  let v90_r0 : BitVec 32 := Scalar.select true_49_r0 v89_r0 v87_r0
  let c8_i32_50_r0 : BitVec 32 := 8#32
  let v91_r0 : BitVec 1 := Scalar.cmpi .eq v90_r0 c8_i32_50_r0
  let c0_i32_51_r0 : BitVec 32 := 0#32
  let v92_r0 : BitVec 32 := Scalar.select v91_r0 c0_i32_51_r0 v90_r0
  let c0_i32_52_r0 : BitVec 32 := 0#32
  let v93_r0 : BitVec 32 := Scalar.addi v92_r0 c0_i32_52_r0
  let c0_i32_47_r0 : BitVec 32 := 0#32
  let v88_r0 : BitVec 32 := Scalar.addi v87_r0 c0_i32_47_r0
  let v146_r0 : BitVec 1 := Scalar.cmpi .ne v93_r0 v88_r0
  let v147_r0 : BitVec 1 := Scalar.andi true_92_r0 v146_r0
  let true_93_r0 : BitVec 1 := 1#1
  let v148_r0 : BitVec 1 := Scalar.andi v147_r0 true_93_r0
  let v149_r0 : BitVec 32 := Scalar.extui v148_r0
  let c0_i32_94_r0 : BitVec 32 := 0#32
  let v150_r0 : BitVec 1 := Scalar.cmpi .ne v149_r0 c0_i32_94_r0
  v150_r0

def k0_off18 : Fin 1 → Nat :=
  let true_88_r0 : BitVec 1 := 1#1
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c0_i32_47_r0 : BitVec 32 := 0#32
  let v88_r0 : BitVec 32 := Scalar.addi v87_r0 c0_i32_47_r0
  let c0_i32_42_r0 : BitVec 32 := 0#32
  let v83_r0 : BitVec 32 := Scalar.addi v82_r0 c0_i32_42_r0
  let v139_r0 : BitVec 1 := Scalar.cmpi .ne v88_r0 v83_r0
  let v140_r0 : BitVec 1 := Scalar.andi true_88_r0 v139_r0
  let true_84_r0 : BitVec 1 := 1#1
  let c0_i32_37_r0 : BitVec 32 := 0#32
  let v78_r0 : BitVec 32 := Scalar.addi v77_r0 c0_i32_37_r0
  let v132_r0 : BitVec 1 := Scalar.cmpi .ne v83_r0 v78_r0
  let v133_r0 : BitVec 1 := Scalar.andi true_84_r0 v132_r0
  let true_80_r0 : BitVec 1 := 1#1
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c1_i32_87_r0 : BitVec 32 := 1#32
  let v137_r0 : BitVec 32 := Scalar.addi v131_r0 c1_i32_87_r0
  let v138_r0 : BitVec 32 := Scalar.select v133_r0 v137_r0 v131_r0
  let c1_i32_91_r0 : BitVec 32 := 1#32
  let v144_r0 : BitVec 32 := Scalar.addi v138_r0 c1_i32_91_r0
  let v145_r0 : BitVec 32 := Scalar.select v140_r0 v144_r0 v138_r0
  let c8_i32_157_r0 : BitVec 32 := 8#32
  let v212_r0 : BitVec 32 := Scalar.remui v145_r0 c8_i32_157_r0
  ![v212_r0.toNat]
def k0_off19 : Fin 3 → Nat :=
  let true_88_r0 : BitVec 1 := 1#1
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c0_i32_47_r0 : BitVec 32 := 0#32
  let v88_r0 : BitVec 32 := Scalar.addi v87_r0 c0_i32_47_r0
  let c0_i32_42_r0 : BitVec 32 := 0#32
  let v83_r0 : BitVec 32 := Scalar.addi v82_r0 c0_i32_42_r0
  let v139_r0 : BitVec 1 := Scalar.cmpi .ne v88_r0 v83_r0
  let v140_r0 : BitVec 1 := Scalar.andi true_88_r0 v139_r0
  let true_84_r0 : BitVec 1 := 1#1
  let c0_i32_37_r0 : BitVec 32 := 0#32
  let v78_r0 : BitVec 32 := Scalar.addi v77_r0 c0_i32_37_r0
  let v132_r0 : BitVec 1 := Scalar.cmpi .ne v83_r0 v78_r0
  let v133_r0 : BitVec 1 := Scalar.andi true_84_r0 v132_r0
  let true_80_r0 : BitVec 1 := 1#1
  let c0_i32_32_r0 : BitVec 32 := 0#32
  let v73_r0 : BitVec 32 := Scalar.addi v72_r0 c0_i32_32_r0
  let v125_r0 : BitVec 1 := Scalar.cmpi .ne v78_r0 v73_r0
  let v126_r0 : BitVec 1 := Scalar.andi true_80_r0 v125_r0
  let true_76_r0 : BitVec 1 := 1#1
  let c0_i32_27_r0 : BitVec 32 := 0#32
  let v68_r0 : BitVec 32 := Scalar.addi v67_r0 c0_i32_27_r0
  let v118_r0 : BitVec 1 := Scalar.cmpi .ne v73_r0 v68_r0
  let v119_r0 : BitVec 1 := Scalar.andi true_76_r0 v118_r0
  let true_72_r0 : BitVec 1 := 1#1
  let c0_i32_71_r0 : BitVec 32 := 0#32
  let v111_r0 : BitVec 1 := Scalar.cmpi .ne v68_r0 c0_i32_71_r0
  let v112_r0 : BitVec 1 := Scalar.andi true_72_r0 v111_r0
  let c0_i32_69_r0 : BitVec 32 := 0#32
  let c1_i32_70_r0 : BitVec 32 := 1#32
  let v110_r0 : BitVec 32 := Scalar.addi c0_i32_69_r0 c1_i32_70_r0
  let c1_i32_75_r0 : BitVec 32 := 1#32
  let v116_r0 : BitVec 32 := Scalar.addi v110_r0 c1_i32_75_r0
  let v117_r0 : BitVec 32 := Scalar.select v112_r0 v116_r0 v110_r0
  let c1_i32_79_r0 : BitVec 32 := 1#32
  let v123_r0 : BitVec 32 := Scalar.addi v117_r0 c1_i32_79_r0
  let v124_r0 : BitVec 32 := Scalar.select v119_r0 v123_r0 v117_r0
  let c1_i32_83_r0 : BitVec 32 := 1#32
  let v130_r0 : BitVec 32 := Scalar.addi v124_r0 c1_i32_83_r0
  let v131_r0 : BitVec 32 := Scalar.select v126_r0 v130_r0 v124_r0
  let c1_i32_87_r0 : BitVec 32 := 1#32
  let v137_r0 : BitVec 32 := Scalar.addi v131_r0 c1_i32_87_r0
  let v138_r0 : BitVec 32 := Scalar.select v133_r0 v137_r0 v131_r0
  let c1_i32_91_r0 : BitVec 32 := 1#32
  let v144_r0 : BitVec 32 := Scalar.addi v138_r0 c1_i32_91_r0
  let v145_r0 : BitVec 32 := Scalar.select v140_r0 v144_r0 v138_r0
  let c8_i32_157_r0 : BitVec 32 := 8#32
  let v212_r0 : BitVec 32 := Scalar.remui v145_r0 c8_i32_157_r0
  let c0_i32_159_r0 : BitVec 32 := 0#32
  let c0_i32_160_r0 : BitVec 32 := 0#32
  ![v212_r0.toNat, 0, 0]
def k0_off20 : Fin 2 → Nat :=
  let c512_i32_158_r0 : BitVec 32 := 512#32
  let true_49_r0 : BitVec 1 := 1#1
  let true_44_r0 : BitVec 1 := 1#1
  let true_39_r0 : BitVec 1 := 1#1
  let true_34_r0 : BitVec 1 := 1#1
  let true_29_r0 : BitVec 1 := 1#1
  let true_24_r0 : BitVec 1 := 1#1
  let c1_i32_r0 : BitVec 32 := 1#32
  let c0_i32_25_r0 : BitVec 32 := 0#32
  let v65_r0 : BitVec 32 := Scalar.select true_24_r0 c1_i32_r0 c0_i32_25_r0
  let c8_i32_r0 : BitVec 32 := 8#32
  let v66_r0 : BitVec 1 := Scalar.cmpi .eq v65_r0 c8_i32_r0
  let c0_i32_26_r0 : BitVec 32 := 0#32
  let v67_r0 : BitVec 32 := Scalar.select v66_r0 c0_i32_26_r0 v65_r0
  let c1_i32_28_r0 : BitVec 32 := 1#32
  let v69_r0 : BitVec 32 := Scalar.addi v67_r0 c1_i32_28_r0
  let v70_r0 : BitVec 32 := Scalar.select true_29_r0 v69_r0 v67_r0
  let c8_i32_30_r0 : BitVec 32 := 8#32
  let v71_r0 : BitVec 1 := Scalar.cmpi .eq v70_r0 c8_i32_30_r0
  let c0_i32_31_r0 : BitVec 32 := 0#32
  let v72_r0 : BitVec 32 := Scalar.select v71_r0 c0_i32_31_r0 v70_r0
  let c1_i32_33_r0 : BitVec 32 := 1#32
  let v74_r0 : BitVec 32 := Scalar.addi v72_r0 c1_i32_33_r0
  let v75_r0 : BitVec 32 := Scalar.select true_34_r0 v74_r0 v72_r0
  let c8_i32_35_r0 : BitVec 32 := 8#32
  let v76_r0 : BitVec 1 := Scalar.cmpi .eq v75_r0 c8_i32_35_r0
  let c0_i32_36_r0 : BitVec 32 := 0#32
  let v77_r0 : BitVec 32 := Scalar.select v76_r0 c0_i32_36_r0 v75_r0
  let c1_i32_38_r0 : BitVec 32 := 1#32
  let v79_r0 : BitVec 32 := Scalar.addi v77_r0 c1_i32_38_r0
  let v80_r0 : BitVec 32 := Scalar.select true_39_r0 v79_r0 v77_r0
  let c8_i32_40_r0 : BitVec 32 := 8#32
  let v81_r0 : BitVec 1 := Scalar.cmpi .eq v80_r0 c8_i32_40_r0
  let c0_i32_41_r0 : BitVec 32 := 0#32
  let v82_r0 : BitVec 32 := Scalar.select v81_r0 c0_i32_41_r0 v80_r0
  let c1_i32_43_r0 : BitVec 32 := 1#32
  let v84_r0 : BitVec 32 := Scalar.addi v82_r0 c1_i32_43_r0
  let v85_r0 : BitVec 32 := Scalar.select true_44_r0 v84_r0 v82_r0
  let c8_i32_45_r0 : BitVec 32 := 8#32
  let v86_r0 : BitVec 1 := Scalar.cmpi .eq v85_r0 c8_i32_45_r0
  let c0_i32_46_r0 : BitVec 32 := 0#32
  let v87_r0 : BitVec 32 := Scalar.select v86_r0 c0_i32_46_r0 v85_r0
  let c1_i32_48_r0 : BitVec 32 := 1#32
  let v89_r0 : BitVec 32 := Scalar.addi v87_r0 c1_i32_48_r0
  let v90_r0 : BitVec 32 := Scalar.select true_49_r0 v89_r0 v87_r0
  let c8_i32_50_r0 : BitVec 32 := 8#32
  let v91_r0 : BitVec 1 := Scalar.cmpi .eq v90_r0 c8_i32_50_r0
  let c0_i32_51_r0 : BitVec 32 := 0#32
  let v92_r0 : BitVec 32 := Scalar.select v91_r0 c0_i32_51_r0 v90_r0
  let c0_i32_52_r0 : BitVec 32 := 0#32
  let v93_r0 : BitVec 32 := Scalar.addi v92_r0 c0_i32_52_r0
  let v213_r0 : BitVec 32 := Scalar.muli c512_i32_158_r0 v93_r0
  let c0_i32_161_r0 : BitVec 32 := 0#32
  ![v213_r0.toNat, 0]
@[reducible] def k0_t1_loop : Scf.Loop 32 :=
  let c0_i32_100_r0 : BitVec 32 := 0#32
  let c8_i32_101_r0 : BitVec 32 := 8#32
  let v153_r0 : BitVec 32 := Scalar.addi c0_i32_100_r0 c8_i32_101_r0
  let c1_i32_102_r0 : BitVec 32 := 1#32
  ⟨c0_i32_100_r0, v153_r0, c1_i32_102_r0⟩
def k0_off21 (arg7_r0 : BitVec 32) : Fin 1 → Nat :=
  let c8_i32_246_r0 : BitVec 32 := 8#32
  let v339_r0 : BitVec 32 := Scalar.remui arg7_r0 c8_i32_246_r0
  ![v339_r0.toNat]
def k0_cond7 (k0_t1 : Fin k0_t1_loop.trips) (arg11_r0 : BitVec 32) : BitVec 1 :=
  let true_191_r0 : BitVec 1 := 1#1
  let true_186_r0 : BitVec 1 := 1#1
  let true_181_r0 : BitVec 1 := 1#1
  let true_176_r0 : BitVec 1 := 1#1
  let true_171_r0 : BitVec 1 := 1#1
  let true_166_r0 : BitVec 1 := 1#1
  let c1_i32_165_r0 : BitVec 32 := 1#32
  let v220_r0 : BitVec 32 := Scalar.addi arg11_r0 c1_i32_165_r0
  let v221_r0 : BitVec 32 := Scalar.select true_166_r0 v220_r0 arg11_r0
  let c8_i32_167_r0 : BitVec 32 := 8#32
  let v222_r0 : BitVec 1 := Scalar.cmpi .eq v221_r0 c8_i32_167_r0
  let c0_i32_168_r0 : BitVec 32 := 0#32
  let v223_r0 : BitVec 32 := Scalar.select v222_r0 c0_i32_168_r0 v221_r0
  let c1_i32_170_r0 : BitVec 32 := 1#32
  let v225_r0 : BitVec 32 := Scalar.addi v223_r0 c1_i32_170_r0
  let v226_r0 : BitVec 32 := Scalar.select true_171_r0 v225_r0 v223_r0
  let c8_i32_172_r0 : BitVec 32 := 8#32
  let v227_r0 : BitVec 1 := Scalar.cmpi .eq v226_r0 c8_i32_172_r0
  let c0_i32_173_r0 : BitVec 32 := 0#32
  let v228_r0 : BitVec 32 := Scalar.select v227_r0 c0_i32_173_r0 v226_r0
  let c1_i32_175_r0 : BitVec 32 := 1#32
  let v230_r0 : BitVec 32 := Scalar.addi v228_r0 c1_i32_175_r0
  let v231_r0 : BitVec 32 := Scalar.select true_176_r0 v230_r0 v228_r0
  let c8_i32_177_r0 : BitVec 32 := 8#32
  let v232_r0 : BitVec 1 := Scalar.cmpi .eq v231_r0 c8_i32_177_r0
  let c0_i32_178_r0 : BitVec 32 := 0#32
  let v233_r0 : BitVec 32 := Scalar.select v232_r0 c0_i32_178_r0 v231_r0
  let c1_i32_180_r0 : BitVec 32 := 1#32
  let v235_r0 : BitVec 32 := Scalar.addi v233_r0 c1_i32_180_r0
  let v236_r0 : BitVec 32 := Scalar.select true_181_r0 v235_r0 v233_r0
  let c8_i32_182_r0 : BitVec 32 := 8#32
  let v237_r0 : BitVec 1 := Scalar.cmpi .eq v236_r0 c8_i32_182_r0
  let c0_i32_183_r0 : BitVec 32 := 0#32
  let v238_r0 : BitVec 32 := Scalar.select v237_r0 c0_i32_183_r0 v236_r0
  let c1_i32_185_r0 : BitVec 32 := 1#32
  let v240_r0 : BitVec 32 := Scalar.addi v238_r0 c1_i32_185_r0
  let v241_r0 : BitVec 32 := Scalar.select true_186_r0 v240_r0 v238_r0
  let c8_i32_187_r0 : BitVec 32 := 8#32
  let v242_r0 : BitVec 1 := Scalar.cmpi .eq v241_r0 c8_i32_187_r0
  let c0_i32_188_r0 : BitVec 32 := 0#32
  let v243_r0 : BitVec 32 := Scalar.select v242_r0 c0_i32_188_r0 v241_r0
  let c1_i32_190_r0 : BitVec 32 := 1#32
  let v245_r0 : BitVec 32 := Scalar.addi v243_r0 c1_i32_190_r0
  let v246_r0 : BitVec 32 := Scalar.select true_191_r0 v245_r0 v243_r0
  let c8_i32_192_r0 : BitVec 32 := 8#32
  let v247_r0 : BitVec 1 := Scalar.cmpi .eq v246_r0 c8_i32_192_r0
  let c0_i32_193_r0 : BitVec 32 := 0#32
  let v248_r0 : BitVec 32 := Scalar.select v247_r0 c0_i32_193_r0 v246_r0
  let c0_i32_194_r0 : BitVec 32 := 0#32
  let v249_r0 : BitVec 32 := Scalar.addi v248_r0 c0_i32_194_r0
  let true_196_r0 : BitVec 1 := 1#1
  let c1_i32_195_r0 : BitVec 32 := 1#32
  let v250_r0 : BitVec 32 := Scalar.addi v248_r0 c1_i32_195_r0
  let v251_r0 : BitVec 32 := Scalar.select true_196_r0 v250_r0 v248_r0
  let c8_i32_197_r0 : BitVec 32 := 8#32
  let v252_r0 : BitVec 1 := Scalar.cmpi .eq v251_r0 c8_i32_197_r0
  let c0_i32_198_r0 : BitVec 32 := 0#32
  let v253_r0 : BitVec 32 := Scalar.select v252_r0 c0_i32_198_r0 v251_r0
  let c0_i32_199_r0 : BitVec 32 := 0#32
  let v254_r0 : BitVec 32 := Scalar.addi v253_r0 c0_i32_199_r0
  let v260_r0 : BitVec 1 := Scalar.cmpi .ne v249_r0 v254_r0
  let c0_i32_100_r0 : BitVec 32 := 0#32
  let c1_i32_102_r0 : BitVec 32 := 1#32
  let arg6_r0 : BitVec 32 := Scf.iv c0_i32_100_r0 c1_i32_102_r0 k0_t1
  let c1_i32_205_r0 : BitVec 32 := 1#32
  let v261_r0 : BitVec 1 := Scalar.cmpi .sge arg6_r0 c1_i32_205_r0
  let true_206_r0 : BitVec 1 := 1#1
  let v262_r0 : BitVec 1 := Scalar.xori v261_r0 true_206_r0
  let v263_r0 : BitVec 1 := Scalar.andi v260_r0 v262_r0
  let true_207_r0 : BitVec 1 := 1#1
  let v264_r0 : BitVec 1 := Scalar.andi v263_r0 true_207_r0
  let v265_r0 : BitVec 32 := Scalar.extui v264_r0
  let c0_i32_208_r0 : BitVec 32 := 0#32
  let v266_r0 : BitVec 1 := Scalar.cmpi .ne v265_r0 c0_i32_208_r0
  v266_r0

def k0_off22 (arg7_r0 : BitVec 32) : Fin 3 → Nat :=
  let c8_i32_246_r0 : BitVec 32 := 8#32
  let v339_r0 : BitVec 32 := Scalar.remui arg7_r0 c8_i32_246_r0
  let c0_i32_248_r0 : BitVec 32 := 0#32
  let c0_i32_249_r0 : BitVec 32 := 0#32
  ![v339_r0.toNat, 0, 0]
def k0_off23 (arg11_r0 : BitVec 32) : Fin 2 → Nat :=
  let c512_i32_247_r0 : BitVec 32 := 512#32
  let true_196_r0 : BitVec 1 := 1#1
  let true_191_r0 : BitVec 1 := 1#1
  let true_186_r0 : BitVec 1 := 1#1
  let true_181_r0 : BitVec 1 := 1#1
  let true_176_r0 : BitVec 1 := 1#1
  let true_171_r0 : BitVec 1 := 1#1
  let true_166_r0 : BitVec 1 := 1#1
  let c1_i32_165_r0 : BitVec 32 := 1#32
  let v220_r0 : BitVec 32 := Scalar.addi arg11_r0 c1_i32_165_r0
  let v221_r0 : BitVec 32 := Scalar.select true_166_r0 v220_r0 arg11_r0
  let c8_i32_167_r0 : BitVec 32 := 8#32
  let v222_r0 : BitVec 1 := Scalar.cmpi .eq v221_r0 c8_i32_167_r0
  let c0_i32_168_r0 : BitVec 32 := 0#32
  let v223_r0 : BitVec 32 := Scalar.select v222_r0 c0_i32_168_r0 v221_r0
  let c1_i32_170_r0 : BitVec 32 := 1#32
  let v225_r0 : BitVec 32 := Scalar.addi v223_r0 c1_i32_170_r0
  let v226_r0 : BitVec 32 := Scalar.select true_171_r0 v225_r0 v223_r0
  let c8_i32_172_r0 : BitVec 32 := 8#32
  let v227_r0 : BitVec 1 := Scalar.cmpi .eq v226_r0 c8_i32_172_r0
  let c0_i32_173_r0 : BitVec 32 := 0#32
  let v228_r0 : BitVec 32 := Scalar.select v227_r0 c0_i32_173_r0 v226_r0
  let c1_i32_175_r0 : BitVec 32 := 1#32
  let v230_r0 : BitVec 32 := Scalar.addi v228_r0 c1_i32_175_r0
  let v231_r0 : BitVec 32 := Scalar.select true_176_r0 v230_r0 v228_r0
  let c8_i32_177_r0 : BitVec 32 := 8#32
  let v232_r0 : BitVec 1 := Scalar.cmpi .eq v231_r0 c8_i32_177_r0
  let c0_i32_178_r0 : BitVec 32 := 0#32
  let v233_r0 : BitVec 32 := Scalar.select v232_r0 c0_i32_178_r0 v231_r0
  let c1_i32_180_r0 : BitVec 32 := 1#32
  let v235_r0 : BitVec 32 := Scalar.addi v233_r0 c1_i32_180_r0
  let v236_r0 : BitVec 32 := Scalar.select true_181_r0 v235_r0 v233_r0
  let c8_i32_182_r0 : BitVec 32 := 8#32
  let v237_r0 : BitVec 1 := Scalar.cmpi .eq v236_r0 c8_i32_182_r0
  let c0_i32_183_r0 : BitVec 32 := 0#32
  let v238_r0 : BitVec 32 := Scalar.select v237_r0 c0_i32_183_r0 v236_r0
  let c1_i32_185_r0 : BitVec 32 := 1#32
  let v240_r0 : BitVec 32 := Scalar.addi v238_r0 c1_i32_185_r0
  let v241_r0 : BitVec 32 := Scalar.select true_186_r0 v240_r0 v238_r0
  let c8_i32_187_r0 : BitVec 32 := 8#32
  let v242_r0 : BitVec 1 := Scalar.cmpi .eq v241_r0 c8_i32_187_r0
  let c0_i32_188_r0 : BitVec 32 := 0#32
  let v243_r0 : BitVec 32 := Scalar.select v242_r0 c0_i32_188_r0 v241_r0
  let c1_i32_190_r0 : BitVec 32 := 1#32
  let v245_r0 : BitVec 32 := Scalar.addi v243_r0 c1_i32_190_r0
  let v246_r0 : BitVec 32 := Scalar.select true_191_r0 v245_r0 v243_r0
  let c8_i32_192_r0 : BitVec 32 := 8#32
  let v247_r0 : BitVec 1 := Scalar.cmpi .eq v246_r0 c8_i32_192_r0
  let c0_i32_193_r0 : BitVec 32 := 0#32
  let v248_r0 : BitVec 32 := Scalar.select v247_r0 c0_i32_193_r0 v246_r0
  let c1_i32_195_r0 : BitVec 32 := 1#32
  let v250_r0 : BitVec 32 := Scalar.addi v248_r0 c1_i32_195_r0
  let v251_r0 : BitVec 32 := Scalar.select true_196_r0 v250_r0 v248_r0
  let c8_i32_197_r0 : BitVec 32 := 8#32
  let v252_r0 : BitVec 1 := Scalar.cmpi .eq v251_r0 c8_i32_197_r0
  let c0_i32_198_r0 : BitVec 32 := 0#32
  let v253_r0 : BitVec 32 := Scalar.select v252_r0 c0_i32_198_r0 v251_r0
  let c0_i32_199_r0 : BitVec 32 := 0#32
  let v254_r0 : BitVec 32 := Scalar.addi v253_r0 c0_i32_199_r0
  let v340_r0 : BitVec 32 := Scalar.muli c512_i32_247_r0 v254_r0
  let c0_i32_250_r0 : BitVec 32 := 0#32
  ![v340_r0.toNat, 0]
def k0_off24 (arg8_r0 : BitVec 32) : Fin 1 → Nat :=
  let c8_i32_247_r0 : BitVec 32 := 8#32
  let v340_r0 : BitVec 32 := Scalar.remui arg8_r0 c8_i32_247_r0
  ![v340_r0.toNat]
def k0_cond8 (k0_t1 : Fin k0_t1_loop.trips) (arg11_r0 : BitVec 32) : BitVec 1 :=
  let c0_i32_159_r0 : BitVec 32 := 0#32
  let v214_r0 : BitVec 32 := Scalar.addi arg11_r0 c0_i32_159_r0
  let true_161_r0 : BitVec 1 := 1#1
  let c1_i32_160_r0 : BitVec 32 := 1#32
  let v215_r0 : BitVec 32 := Scalar.subi arg11_r0 c1_i32_160_r0
  let v216_r0 : BitVec 32 := Scalar.select true_161_r0 v215_r0 arg11_r0
  let c_m1_i32_162_r0 : BitVec 32 := 4294967295#32
  let v217_r0 : BitVec 1 := Scalar.cmpi .eq v216_r0 c_m1_i32_162_r0
  let c7_i32_163_r0 : BitVec 32 := 7#32
  let v218_r0 : BitVec 32 := Scalar.select v217_r0 c7_i32_163_r0 v216_r0
  let c0_i32_164_r0 : BitVec 32 := 0#32
  let v219_r0 : BitVec 32 := Scalar.addi v218_r0 c0_i32_164_r0
  let v274_r0 : BitVec 1 := Scalar.cmpi .ne v214_r0 v219_r0
  let c0_i32_100_r0 : BitVec 32 := 0#32
  let c1_i32_102_r0 : BitVec 32 := 1#32
  let arg6_r0 : BitVec 32 := Scf.iv c0_i32_100_r0 c1_i32_102_r0 k0_t1
  let c0_i32_157_r0 : BitVec 32 := 0#32
  let v212_r0 : BitVec 1 := Scalar.cmpi .eq arg6_r0 c0_i32_157_r0
  let v275_r0 : BitVec 1 := Scalar.ori v274_r0 v212_r0
  let c0_i32_213_r0 : BitVec 32 := 0#32
  let v276_r0 : BitVec 1 := Scalar.cmpi .sge arg6_r0 c0_i32_213_r0
  let v277_r0 : BitVec 1 := Scalar.andi v275_r0 v276_r0
  let v278_r0 : BitVec 32 := Scalar.extui v277_r0
  let c0_i32_214_r0 : BitVec 32 := 0#32
  let v279_r0 : BitVec 1 := Scalar.cmpi .ne v278_r0 c0_i32_214_r0
  v279_r0

def k0_off25 (arg8_r0 : BitVec 32) : Fin 3 → Nat :=
  let c8_i32_247_r0 : BitVec 32 := 8#32
  let v340_r0 : BitVec 32 := Scalar.remui arg8_r0 c8_i32_247_r0
  let c0_i32_248_r0 : BitVec 32 := 0#32
  let c0_i32_249_r0 : BitVec 32 := 0#32
  ![v340_r0.toNat, 0, 0]
def k0_off26 (arg11_r0 : BitVec 32) : Fin 2 → Nat :=
  let c512_i32_246_r0 : BitVec 32 := 512#32
  let c0_i32_159_r0 : BitVec 32 := 0#32
  let v214_r0 : BitVec 32 := Scalar.addi arg11_r0 c0_i32_159_r0
  let v339_r0 : BitVec 32 := Scalar.muli c512_i32_246_r0 v214_r0
  let c0_i32_250_r0 : BitVec 32 := 0#32
  ![v339_r0.toNat, 0]
def k0_off27 (arg8_r0 : BitVec 32) : Fin 3 → Nat :=
  let c8_i32_217_r0 : BitVec 32 := 8#32
  let v286_r0 : BitVec 32 := Scalar.remui arg8_r0 c8_i32_217_r0
  let v288_r0 : Index := Scalar.indexCast v286_r0
  let c0_219_r0 : Index := 0#32
  let c0_220_r0 : Index := 0#32
  ![v288_r0.toNat, 0, 0]

def k0_chk2 (arg8_r0 : BitVec 32) : Prop :=
  (∀ a, (k0_off27 arg8_r0) a + S1x512x1024.size a ≤ S8x512x1024.size a)
theorem k0_off27_inb : ∀ (arg8_r0 : BitVec 32) (k0_hw2 : k0_chk2 arg8_r0), ∀ a, (k0_off27 arg8_r0) a + S1x512x1024.size a ≤ S8x512x1024.size a := fun arg8_r0 k0_hw2 => k0_hw2

def k0_off28 (arg9_r0 : BitVec 32) : Fin 3 → Nat :=
  let c2_i32_218_r0 : BitVec 32 := 2#32
  let v287_r0 : BitVec 32 := Scalar.remui arg9_r0 c2_i32_218_r0
  let v301_r0 : Index := Scalar.indexCast v287_r0
  let c0_228_r0 : Index := 0#32
  let c0_229_r0 : Index := 0#32
  ![v301_r0.toNat, 0, 0]

def k0_chk3 (arg9_r0 : BitVec 32) : Prop :=
  (∀ a, (k0_off28 arg9_r0) a + S1x512x1024.size a ≤ S2x512x1024.size a)
theorem k0_off28_inb : ∀ (arg9_r0 : BitVec 32) (k0_hw3 : k0_chk3 arg9_r0), ∀ a, (k0_off28 arg9_r0) a + S1x512x1024.size a ≤ S2x512x1024.size a := fun arg9_r0 k0_hw3 => k0_hw3

def k0_off29 (arg9_r0 : BitVec 32) : Fin 1 → Nat :=
  let c2_i32_246_r0 : BitVec 32 := 2#32
  let v339_r0 : BitVec 32 := Scalar.remui arg9_r0 c2_i32_246_r0
  ![v339_r0.toNat]
def k0_cond11 (k0_t1 : Fin k0_t1_loop.trips) (arg11_r0 : BitVec 32) : BitVec 1 :=
  let c0_i32_159_r0 : BitVec 32 := 0#32
  let v214_r0 : BitVec 32 := Scalar.addi arg11_r0 c0_i32_159_r0
  let true_166_r0 : BitVec 1 := 1#1
  let c1_i32_165_r0 : BitVec 32 := 1#32
  let v220_r0 : BitVec 32 := Scalar.addi arg11_r0 c1_i32_165_r0
  let v221_r0 : BitVec 32 := Scalar.select true_166_r0 v220_r0 arg11_r0
  let c8_i32_167_r0 : BitVec 32 := 8#32
  let v222_r0 : BitVec 1 := Scalar.cmpi .eq v221_r0 c8_i32_167_r0
  let c0_i32_168_r0 : BitVec 32 := 0#32
  let v223_r0 : BitVec 32 := Scalar.select v222_r0 c0_i32_168_r0 v221_r0
  let c0_i32_169_r0 : BitVec 32 := 0#32
  let v224_r0 : BitVec 32 := Scalar.addi v223_r0 c0_i32_169_r0
  let v310_r0 : BitVec 1 := Scalar.cmpi .ne v214_r0 v224_r0
  let c0_i32_100_r0 : BitVec 32 := 0#32
  let c1_i32_102_r0 : BitVec 32 := 1#32
  let arg6_r0 : BitVec 32 := Scf.iv c0_i32_100_r0 c1_i32_102_r0 k0_t1
  let c7_i32_158_r0 : BitVec 32 := 7#32
  let v213_r0 : BitVec 1 := Scalar.cmpi .eq arg6_r0 c7_i32_158_r0
  let v311_r0 : BitVec 1 := Scalar.ori v310_r0 v213_r0
  let v312_r0 : BitVec 32 := Scalar.extui v311_r0
  let c0_i32_231_r0 : BitVec 32 := 0#32
  let v313_r0 : BitVec 1 := Scalar.cmpi .ne v312_r0 c0_i32_231_r0
  v313_r0

def k0_off30 (arg11_r0 : BitVec 32) : Fin 2 → Nat :=
  let c512_i32_247_r0 : BitVec 32 := 512#32
  let c0_i32_159_r0 : BitVec 32 := 0#32
  let v214_r0 : BitVec 32 := Scalar.addi arg11_r0 c0_i32_159_r0
  let v340_r0 : BitVec 32 := Scalar.muli c512_i32_247_r0 v214_r0
  let c0_i32_248_r0 : BitVec 32 := 0#32
  ![v340_r0.toNat, 0]
def k0_off31 (arg9_r0 : BitVec 32) : Fin 3 → Nat :=
  let c2_i32_246_r0 : BitVec 32 := 2#32
  let v339_r0 : BitVec 32 := Scalar.remui arg9_r0 c2_i32_246_r0
  let c0_i32_249_r0 : BitVec 32 := 0#32
  let c0_i32_250_r0 : BitVec 32 := 0#32
  ![v339_r0.toNat, 0, 0]
def k0_off32 (arg10_r0 : BitVec 32) : Fin 1 → Nat :=
  let c2_i32_246_r0 : BitVec 32 := 2#32
  let v339_r0 : BitVec 32 := Scalar.remui arg10_r0 c2_i32_246_r0
  ![v339_r0.toNat]
def k0_cond13 (k0_t1 : Fin k0_t1_loop.trips) (arg11_r0 : BitVec 32) : BitVec 1 :=
  let c0_i32_159_r0 : BitVec 32 := 0#32
  let v214_r0 : BitVec 32 := Scalar.addi arg11_r0 c0_i32_159_r0
  let true_161_r0 : BitVec 1 := 1#1
  let c1_i32_160_r0 : BitVec 32 := 1#32
  let v215_r0 : BitVec 32 := Scalar.subi arg11_r0 c1_i32_160_r0
  let v216_r0 : BitVec 32 := Scalar.select true_161_r0 v215_r0 arg11_r0
  let c_m1_i32_162_r0 : BitVec 32 := 4294967295#32
  let v217_r0 : BitVec 1 := Scalar.cmpi .eq v216_r0 c_m1_i32_162_r0
  let c7_i32_163_r0 : BitVec 32 := 7#32
  let v218_r0 : BitVec 32 := Scalar.select v217_r0 c7_i32_163_r0 v216_r0
  let c0_i32_164_r0 : BitVec 32 := 0#32
  let v219_r0 : BitVec 32 := Scalar.addi v218_r0 c0_i32_164_r0
  let v323_r0 : BitVec 1 := Scalar.cmpi .ne v214_r0 v219_r0
  let c0_i32_100_r0 : BitVec 32 := 0#32
  let c1_i32_102_r0 : BitVec 32 := 1#32
  let arg6_r0 : BitVec 32 := Scf.iv c0_i32_100_r0 c1_i32_102_r0 k0_t1
  let c0_i32_157_r0 : BitVec 32 := 0#32
  let v212_r0 : BitVec 1 := Scalar.cmpi .eq arg6_r0 c0_i32_157_r0
  let true_237_r0 : BitVec 1 := 1#1
  let v324_r0 : BitVec 1 := Scalar.xori v212_r0 true_237_r0
  let v325_r0 : BitVec 1 := Scalar.andi v323_r0 v324_r0
  let v326_r0 : BitVec 32 := Scalar.extui v325_r0
  let c0_i32_238_r0 : BitVec 32 := 0#32
  let v327_r0 : BitVec 1 := Scalar.cmpi .ne v326_r0 c0_i32_238_r0
  v327_r0

def k0_off33 (arg11_r0 : BitVec 32) : Fin 2 → Nat :=
  let c512_i32_247_r0 : BitVec 32 := 512#32
  let true_161_r0 : BitVec 1 := 1#1
  let c1_i32_160_r0 : BitVec 32 := 1#32
  let v215_r0 : BitVec 32 := Scalar.subi arg11_r0 c1_i32_160_r0
  let v216_r0 : BitVec 32 := Scalar.select true_161_r0 v215_r0 arg11_r0
  let c_m1_i32_162_r0 : BitVec 32 := 4294967295#32
  let v217_r0 : BitVec 1 := Scalar.cmpi .eq v216_r0 c_m1_i32_162_r0
  let c7_i32_163_r0 : BitVec 32 := 7#32
  let v218_r0 : BitVec 32 := Scalar.select v217_r0 c7_i32_163_r0 v216_r0
  let c0_i32_164_r0 : BitVec 32 := 0#32
  let v219_r0 : BitVec 32 := Scalar.addi v218_r0 c0_i32_164_r0
  let v340_r0 : BitVec 32 := Scalar.muli c512_i32_247_r0 v219_r0
  let c0_i32_248_r0 : BitVec 32 := 0#32
  ![v340_r0.toNat, 0]
def k0_off34 (arg10_r0 : BitVec 32) : Fin 3 → Nat :=
  let c2_i32_246_r0 : BitVec 32 := 2#32
  let v339_r0 : BitVec 32 := Scalar.remui arg10_r0 c2_i32_246_r0
  let c0_i32_249_r0 : BitVec 32 := 0#32
  let c0_i32_250_r0 : BitVec 32 := 0#32
  ![v339_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h7 : k0_cond7 k0_t1 arg11_r0 = 1#1), ∀ a, (k0_off21 arg7_r0) a + S1.size a ≤ S8.size a) ∧
  (∀ (k0_h7 : k0_cond7 k0_t1 arg11_r0 = 1#1), ∀ a, (k0_off22 arg7_r0) a + S1x512x1024.size a ≤ S8x512x1024.size a) ∧
  (∀ (k0_h7 : k0_cond7 k0_t1 arg11_r0 = 1#1), ∀ a, (k0_off23 arg11_r0) a + S512x1024.size a ≤ S4096x1024.size a) ∧
  (∀ (k0_h8 : k0_cond8 k0_t1 arg11_r0 = 1#1), ∀ a, (k0_off24 arg8_r0) a + S1.size a ≤ S8.size a) ∧
  (∀ (k0_h8 : k0_cond8 k0_t1 arg11_r0 = 1#1), ∀ a, (k0_off25 arg8_r0) a + S1x512x1024.size a ≤ S8x512x1024.size a) ∧
  (∀ (k0_h8 : k0_cond8 k0_t1 arg11_r0 = 1#1), ∀ a, (k0_off26 arg11_r0) a + S512x1024.size a ≤ S4096x1024.size a) ∧
  (∀ (k0_h11 : k0_cond11 k0_t1 arg11_r0 = 1#1), ∀ a, (k0_off29 arg9_r0) a + S1.size a ≤ S2.size a) ∧
  (∀ (k0_h11 : k0_cond11 k0_t1 arg11_r0 = 1#1), ∀ a, (k0_off30 arg11_r0) a + S512x1024.size a ≤ S4096x1024.size a) ∧
  (∀ (k0_h11 : k0_cond11 k0_t1 arg11_r0 = 1#1), ∀ a, (k0_off31 arg9_r0) a + S1x512x1024.size a ≤ S2x512x1024.size a) ∧
  (∀ (k0_h13 : k0_cond13 k0_t1 arg11_r0 = 1#1), ∀ a, (k0_off32 arg10_r0) a + S1.size a ≤ S2.size a) ∧
  (∀ (k0_h13 : k0_cond13 k0_t1 arg11_r0 = 1#1), ∀ a, (k0_off33 arg11_r0) a + S512x1024.size a ≤ S4096x1024.size a) ∧
  (∀ (k0_h13 : k0_cond13 k0_t1 arg11_r0 = 1#1), ∀ a, (k0_off34 arg10_r0) a + S1x512x1024.size a ≤ S2x512x1024.size a)
theorem k0_off21_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off21 arg7_r0) a + S1.size a ≤ S8.size a := fun k0_t1 arg7_r0 arg8_r0 arg9_r0 arg10_r0 arg11_r0 k0_hw1 k0_h7 => k0_hw1.1 k0_h7
theorem k0_off22_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off22 arg7_r0) a + S1x512x1024.size a ≤ S8x512x1024.size a := fun k0_t1 arg7_r0 arg8_r0 arg9_r0 arg10_r0 arg11_r0 k0_hw1 k0_h7 => k0_hw1.2.1 k0_h7
theorem k0_off23_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off23 arg11_r0) a + S512x1024.size a ≤ S4096x1024.size a := fun k0_t1 arg7_r0 arg8_r0 arg9_r0 arg10_r0 arg11_r0 k0_hw1 k0_h7 => k0_hw1.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off24 arg8_r0) a + S1.size a ≤ S8.size a := fun k0_t1 arg7_r0 arg8_r0 arg9_r0 arg10_r0 arg11_r0 k0_hw1 k0_h8 => k0_hw1.2.2.2.1 k0_h8
theorem k0_off25_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off25 arg8_r0) a + S1x512x1024.size a ≤ S8x512x1024.size a := fun k0_t1 arg7_r0 arg8_r0 arg9_r0 arg10_r0 arg11_r0 k0_hw1 k0_h8 => k0_hw1.2.2.2.2.1 k0_h8
theorem k0_off26_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h8 : k0_cond8 k0_t1 arg11_r0 = 1#1), ∀ a, (k0_off26 arg11_r0) a + S512x1024.size a ≤ S4096x1024.size a := fun k0_t1 arg7_r0 arg8_r0 arg9_r0 arg10_r0 arg11_r0 k0_hw1 k0_h8 => k0_hw1.2.2.2.2.2.1 k0_h8
theorem k0_off29_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off29 arg9_r0) a + S1.size a ≤ S2.size a := fun k0_t1 arg7_r0 arg8_r0 arg9_r0 arg10_r0 arg11_r0 k0_hw1 k0_h11 => k0_hw1.2.2.2.2.2.2.1 k0_h11
theorem k0_off30_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off30 arg11_r0) a + S512x1024.size a ≤ S4096x1024.size a := fun k0_t1 arg7_r0 arg8_r0 arg9_r0 arg10_r0 arg11_r0 k0_hw1 k0_h11 => k0_hw1.2.2.2.2.2.2.2.1 k0_h11
theorem k0_off31_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h11 : k0_cond11 k0_t1 arg11_r0 = 1#1), ∀ a, (k0_off31 arg9_r0) a + S1x512x1024.size a ≤ S2x512x1024.size a := fun k0_t1 arg7_r0 arg8_r0 arg9_r0 arg10_r0 arg11_r0 k0_hw1 k0_h11 => k0_hw1.2.2.2.2.2.2.2.2.1 k0_h11
theorem k0_off32_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off32 arg10_r0) a + S1.size a ≤ S2.size a := fun k0_t1 arg7_r0 arg8_r0 arg9_r0 arg10_r0 arg11_r0 k0_hw1 k0_h13 => k0_hw1.2.2.2.2.2.2.2.2.2.1 k0_h13
theorem k0_off33_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off33 arg11_r0) a + S512x1024.size a ≤ S4096x1024.size a := fun k0_t1 arg7_r0 arg8_r0 arg9_r0 arg10_r0 arg11_r0 k0_hw1 k0_h13 => k0_hw1.2.2.2.2.2.2.2.2.2.2.1 k0_h13
theorem k0_off34_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h13 : k0_cond13 k0_t1 arg11_r0 = 1#1), ∀ a, (k0_off34 arg10_r0) a + S1x512x1024.size a ≤ S2x512x1024.size a := fun k0_t1 arg7_r0 arg8_r0 arg9_r0 arg10_r0 arg11_r0 k0_hw1 k0_h13 => k0_hw1.2.2.2.2.2.2.2.2.2.2.2 k0_h13

def k0_off35 (v154_3_r0 : BitVec 32) : Fin 1 → Nat :=
  let c2_i32_r0 : BitVec 32 := 2#32
  let v205_r0 : BitVec 32 := Scalar.remui v154_3_r0 c2_i32_r0
  ![v205_r0.toNat]

def k0_off36 (v154_4_r0 : BitVec 32) : Fin 2 → Nat :=
  let c512_i32_r0 : BitVec 32 := 512#32
  let true_105_r0 : BitVec 1 := 1#1
  let c1_i32_104_r0 : BitVec 32 := 1#32
  let v155_r0 : BitVec 32 := Scalar.subi v154_4_r0 c1_i32_104_r0
  let v156_r0 : BitVec 32 := Scalar.select true_105_r0 v155_r0 v154_4_r0
  let c_m1_i32_106_r0 : BitVec 32 := 4294967295#32
  let v157_r0 : BitVec 1 := Scalar.cmpi .eq v156_r0 c_m1_i32_106_r0
  let c7_i32_107_r0 : BitVec 32 := 7#32
  let v158_r0 : BitVec 32 := Scalar.select v157_r0 c7_i32_107_r0 v156_r0
  let c0_i32_108_r0 : BitVec 32 := 0#32
  let v159_r0 : BitVec 32 := Scalar.addi v158_r0 c0_i32_108_r0
  let v206_r0 : BitVec 32 := Scalar.muli c512_i32_r0 v159_r0
  let c0_i32_154_r0 : BitVec 32 := 0#32
  ![v206_r0.toNat, 0]

def k0_chk5 (v154_4_r0 : BitVec 32) : Prop :=
  (∀ a, (k0_off36 v154_4_r0) a + S512x1024.size a ≤ S4096x1024.size a)
theorem k0_off36_inb : ∀ (v154_4_r0 : BitVec 32) (k0_hw5 : k0_chk5 v154_4_r0), ∀ a, (k0_off36 v154_4_r0) a + S512x1024.size a ≤ S4096x1024.size a := fun v154_4_r0 k0_hw5 => k0_hw5

def k0_off37 (v154_3_r0 : BitVec 32) : Fin 3 → Nat :=
  let c2_i32_r0 : BitVec 32 := 2#32
  let v205_r0 : BitVec 32 := Scalar.remui v154_3_r0 c2_i32_r0
  let c0_i32_155_r0 : BitVec 32 := 0#32
  let c0_i32_156_r0 : BitVec 32 := 0#32
  ![v205_r0.toNat, 0, 0]

def k0_chk4 (v154_3_r0 : BitVec 32) : Prop :=
  (∀ a, (k0_off35 v154_3_r0) a + S1.size a ≤ S2.size a) ∧
  (∀ a, (k0_off37 v154_3_r0) a + S1x512x1024.size a ≤ S2x512x1024.size a)
theorem k0_off35_inb : ∀ (v154_3_r0 : BitVec 32) (k0_hw4 : k0_chk4 v154_3_r0), ∀ a, (k0_off35 v154_3_r0) a + S1.size a ≤ S2.size a := fun v154_3_r0 k0_hw4 => k0_hw4.1
theorem k0_off37_inb : ∀ (v154_3_r0 : BitVec 32) (k0_hw4 : k0_chk4 v154_3_r0), ∀ a, (k0_off37 v154_3_r0) a + S1x512x1024.size a ≤ S2x512x1024.size a := fun v154_3_r0 k0_hw4 => k0_hw4.2

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "gate_scale" => some ((8796093022208 / 8796101818301 : ℝ) : EReal)
  | "ln2" => some ((Real.log 2 : ℝ) : EReal)
  | _ => none
-- ==== ReferenceIdeal.lean ====
abbrev S4096x1024 : Shape := ⟨2, ![4096, 1024]⟩
abbrev S1024x8 : Shape := ⟨2, ![1024, 8]⟩
abbrev S1024x1024 : Shape := ⟨2, ![1024, 1024]⟩
abbrev S1024 : Shape := ⟨1, ![1024]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x8x1 : Shape := ⟨3, ![4096, 8, 1]⟩
abbrev S4096x8x2 : Shape := ⟨3, ![4096, 8, 2]⟩
abbrev S8 : Shape := ⟨1, ![8]⟩
abbrev S1 : Shape := ⟨1, ![1]⟩
abbrev S1x1024 : Shape := ⟨2, ![1, 1024]⟩
abbrev S4096x1024x1 : Shape := ⟨3, ![4096, 1024, 1]⟩
abbrev S4096x1024x8 : Shape := ⟨3, ![4096, 1024, 8]⟩
abbrev S4096x1x8 : Shape := ⟨3, ![4096, 1, 8]⟩

abbrev nBuf : Space → Nat
  | .hbm => 162
  | .vmem => 0
  | .smem => 0
  | _ => 0

abbrev hbmTy0_0 (i : Nat) : BufTy := match i % 128 with
  | 0 => ⟨S4096x1024, .f32⟩
  | 1 => ⟨S1024x8, .f32⟩
  | 2 => ⟨S1024x8, .f32⟩
  | 3 => ⟨S1024x1024, .f32⟩
  | 4 => ⟨S1024, .f32⟩
  | 5 => ⟨S4096x8, .f32⟩
  | 6 => ⟨S4096x8, .f32⟩
  | 7 => ⟨S4096x8, .f32⟩
  | 8 => ⟨S_, .f32⟩
  | 9 => ⟨S4096x8, .f32⟩
  | 10 => ⟨S4096x8, .f32⟩
  | 11 => ⟨S4096x8, .f32⟩
  | 12 => ⟨S4096x8, .f32⟩
  | 13 => ⟨S4096x8, .i1⟩
  | 14 => ⟨S4096x8, .f32⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S4096x8, .f32⟩
  | 22 => ⟨S_, .f32⟩
  | 23 => ⟨S4096x8, .f32⟩
  | 24 => ⟨S4096x8, .f32⟩
  | 25 => ⟨S4096x8, .f32⟩
  | 26 => ⟨S4096x8, .f32⟩
  | 27 => ⟨S_, .f32⟩
  | 28 => ⟨S4096, .f32⟩
  | 29 => ⟨S_, .f32⟩
  | 30 => ⟨S4096, .f32⟩
  | 31 => ⟨S4096, .f32⟩
  | 32 => ⟨S4096x1, .f32⟩
  | 33 => ⟨S4096x8, .f32⟩
  | 34 => ⟨S4096x8, .f32⟩
  | 35 => ⟨S4096x8, .f32⟩
  | 36 => ⟨S_, .f32⟩
  | 37 => ⟨S4096, .f32⟩
  | 38 => ⟨S4096x1, .f32⟩
  | 39 => ⟨S4096x8, .f32⟩
  | 40 => ⟨S4096x8, .f32⟩
  | 41 => ⟨S4096x8, .f32⟩
  | 42 => ⟨S4096x8, .i32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x8, .f32⟩
  | 50 => ⟨S4096x8, .f32⟩
  | 51 => ⟨S_, .f32⟩
  | 52 => ⟨S4096x8, .f32⟩
  | 53 => ⟨S4096, .i32⟩
  | 54 => ⟨S4096x1, .i32⟩
  | 55 => ⟨S_, .i32⟩
  | 56 => ⟨S4096x1, .i32⟩
  | 57 => ⟨S4096x1, .i1⟩
  | 58 => ⟨S_, .i32⟩
  | 59 => ⟨S4096x1, .i32⟩
  | 60 => ⟨S4096x1, .i32⟩
  | 61 => ⟨S4096x1, .i32⟩
  | 62 => ⟨S_, .i32⟩
  | 63 => ⟨S4096x8, .i32⟩
  | 64 => ⟨S4096x8, .i1⟩
  | 65 => ⟨S_, .i32⟩
  | 66 => ⟨S4096x8, .i32⟩
  | 67 => ⟨S4096x8, .i32⟩
  | 68 => ⟨S4096x8, .i32⟩
  | 69 => ⟨S4096x8, .i32⟩
  | 70 => ⟨S4096x8x1, .i32⟩
  | 71 => ⟨S4096x8x1, .i32⟩
  | 72 => ⟨S4096x8x2, .i32⟩
  | 73 => ⟨S4096x8, .f32⟩
  | 74 => ⟨S_, .f32⟩
  | 75 => ⟨S4096x8, .f32⟩
  | 76 => ⟨S4096x8, .i1⟩
  | 77 => ⟨S4096x8, .f32⟩
  | 78 => ⟨S_, .f32⟩
  | 79 => ⟨S8, .f32⟩
  | 80 => ⟨S_, .f32⟩
  | 81 => ⟨S8, .f32⟩
  | 82 => ⟨S_, .i32⟩
  | 83 => ⟨S_, .f32⟩
  | 84 => ⟨S_, .f32⟩
  | 85 => ⟨S1, .f32⟩
  | 86 => ⟨S_, .f32⟩
  | 87 => ⟨S1, .f32⟩
  | 88 => ⟨S1, .f32⟩
  | 89 => ⟨S8, .f32⟩
  | 90 => ⟨S8, .f32⟩
  | 91 => ⟨S8, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .i32⟩
  | 112 => ⟨S_, .f32⟩
  | 113 => ⟨S_, .f32⟩
  | 114 => ⟨S1, .f32⟩
  | 115 => ⟨S_, .f32⟩
  | 116 => ⟨S1, .f32⟩
  | 117 => ⟨S1, .f32⟩
  | 118 => ⟨S8, .f32⟩
  | 119 => ⟨S8, .f32⟩
  | 120 => ⟨S8, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1024x1024, .f32⟩
  | 16 => ⟨S4096x1024, .f32⟩
  | 17 => ⟨S1x1024, .f32⟩
  | 18 => ⟨S4096x1024, .f32⟩
  | 19 => ⟨S4096x1024, .f32⟩
  | 20 => ⟨S4096x1024x1, .f32⟩
  | 21 => ⟨S4096x1024x1, .f32⟩
  | 22 => ⟨S4096x1024x1, .f32⟩
  | 23 => ⟨S4096x1024x1, .f32⟩
  | 24 => ⟨S4096x1024x1, .f32⟩
  | 25 => ⟨S4096x1024x1, .f32⟩
  | 26 => ⟨S4096x1024x1, .f32⟩
  | 27 => ⟨S4096x1024x1, .f32⟩
  | 28 => ⟨S4096x1024x8, .f32⟩
  | 29 => ⟨S4096x1x8, .f32⟩
  | 30 => ⟨S4096x1024x8, .f32⟩
  | 31 => ⟨S4096x1024x8, .f32⟩
  | 32 => ⟨S_, .f32⟩
  | 33 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_values : Ref sig .tc := ⟨.hbm, 41, rfl⟩
abbrev main_indices : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_10 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_cst_3 : Ref sig .tc := ⟨.hbm, 98, rfl⟩
abbrev main_call1_v11 : Ref sig .tc := ⟨.hbm, 99, rfl⟩
abbrev main_call1_cst_4 : Ref sig .tc := ⟨.hbm, 100, rfl⟩
abbrev main_call1_call0_v0 : Ref sig .tc := ⟨.hbm, 101, rfl⟩
abbrev main_v47 : Ref sig .tc := ⟨.hbm, 102, rfl⟩
abbrev main_cst_13 : Ref sig .tc := ⟨.hbm, 103, rfl⟩
abbrev main_v48 : Ref sig .tc := ⟨.hbm, 104, rfl⟩
abbrev main_cst_14 : Ref sig .tc := ⟨.hbm, 105, rfl⟩
abbrev main_v49 : Ref sig .tc := ⟨.hbm, 106, rfl⟩
abbrev main_v50 : Ref sig .tc := ⟨.hbm, 107, rfl⟩
abbrev main_cst_15 : Ref sig .tc := ⟨.hbm, 108, rfl⟩
abbrev main_v51 : Ref sig .tc := ⟨.hbm, 109, rfl⟩
abbrev main_v52 : Ref sig .tc := ⟨.hbm, 110, rfl⟩
abbrev main_c_16 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_cst_3 : Ref sig .tc := ⟨.hbm, 127, rfl⟩
abbrev main_call2_v11 : Ref sig .tc := ⟨.hbm, 128, rfl⟩
abbrev main_call2_cst_4 : Ref sig .tc := ⟨.hbm, 129, rfl⟩
abbrev main_call2_call0_v0 : Ref sig .tc := ⟨.hbm, 130, rfl⟩
abbrev main_v53 : Ref sig .tc := ⟨.hbm, 131, rfl⟩
abbrev main_cst_17 : Ref sig .tc := ⟨.hbm, 132, rfl⟩
abbrev main_v54 : Ref sig .tc := ⟨.hbm, 133, rfl⟩
abbrev main_cst_18 : Ref sig .tc := ⟨.hbm, 134, rfl⟩
abbrev main_v55 : Ref sig .tc := ⟨.hbm, 135, rfl⟩
abbrev main_v56 : Ref sig .tc := ⟨.hbm, 136, rfl⟩
abbrev main_cst_19 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_cst_20 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_21 : Ref sig .tc := ⟨.hbm, 160, rfl⟩
abbrev main_v78 : Ref sig .tc := ⟨.hbm, 161, rfl⟩

abbrev nD : Nat := 1
abbrev τ : Topo := Topo.v7x

variable {F : FTy → Type} [FloatOps F]
-- ==== Proof.Ring.lean ====
/-
  The kernel's two rings of buffers, read off its index arithmetic: the 8 blocks of `x` (512 rows each), the 8 slots of
  the buffer they are copied into with one DMA semaphore each, and the 2 slots of the buffer the blocks of `y` are
  written back from, again with one semaphore each. The software pipeline has 8 trips and the read ring 8 slots, so
  block `b` of `x` goes into slot `b`; block `b` of `y` leaves from slot `b mod 2`.

  Every offset that the printed body computes from the words that its loop carries is given its closed form here, the
  conditions of its branches are decided, and the slices that the body makes are given names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The carried words and the trips -/

abbrev Trip : Type := Fin k0_t1_loop.trips

theorem trips_eq : k0_t1_loop.trips = 8 := by decide

/-- The words the loop carries into trip `k`: how many blocks of `x` have been issued, the read slot waited next, the
    write slot filled next, the write slot waited next, and the block the trip works on. -/
abbrev Carry : Type := BitVec 32 × BitVec 32 × BitVec 32 × BitVec 32 × BitVec 32
def w7 (k : ℕ) : BitVec 32 := if k = 0 then 7#32 else 8#32
def w8 (k : ℕ) : BitVec 32 := BitVec.ofNat 32 k
def w9 (k : ℕ) : BitVec 32 := BitVec.ofNat 32 k
def w10 (k : ℕ) : BitVec 32 := BitVec.ofNat 32 (k - 1)
def w11 (k : ℕ) : BitVec 32 := BitVec.ofNat 32 (k % 8)
abbrev carryAt (k : ℕ) : Carry := (w7 k, w8 k, w9 k, w10 k, w11 k)

/-- The checks the program makes of the carried words hold at every trip. -/
theorem chk1 : ∀ k : Trip, k0_chk1 k (w7 k) (w8 k) (w9 k) (w10 k) (w11 k) := by decide
theorem chk2 : ∀ k : Trip, k0_chk2 (w8 k) := by decide
theorem chk3 : ∀ k : Trip, k0_chk3 (w9 k) := by decide
theorem chk4 : k0_chk4 (w10 8) := by decide
theorem chk5 : k0_chk5 (w11 8) := by decide

/-- The branches: the last block is issued at the first trip alone, every trip waits its block and issues its result,
    and from the second on the result before it is waited. -/
theorem cond7 : ∀ k : Trip, k0_cond7 k (w11 k) = 1#1 ↔ k.val = 0 := by decide
theorem cond8 : ∀ k : Trip, k0_cond8 k (w11 k) = 1#1 := by decide
theorem cond11 : ∀ k : Trip, k0_cond11 k (w11 k) = 1#1 := by decide
theorem cond13 : ∀ k : Trip, k0_cond13 k (w11 k) = 1#1 ↔ k.val ≠ 0 := by decide

/-! ## The blocks and the slots -/

/-- The first row of block `b`, of `x` and of `y`; -/
abbrev rowOff (b : Fin 8) : Fin 2 → Nat := ![512 * b.val, 0]
theorem rowOff_inb (b : Fin 8) : ∀ a, rowOff b a + S512x1024.size a ≤ S4096x1024.size a := by
  have := b.isLt; intro a; fin_cases a
  · show 512 * b.val + 512 ≤ 4096; omega
  · show 0 + 1024 ≤ 1024; omega
/-- where slot `s` of a buffer of slots starts. -/
abbrev slotOff {n : ℕ} (s : Fin n) : Fin 3 → Nat := ![s.val, 0, 0]
theorem slotOff8_inb (s : Fin 8) : ∀ a, slotOff s a + S1x512x1024.size a ≤ S8x512x1024.size a := by
  have := s.isLt; intro a; fin_cases a
  · show s.val + 1 ≤ 8; omega
  · show 0 + 512 ≤ 512; omega
  · show 0 + 1024 ≤ 1024; omega
theorem slotOff2_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
abbrev semOff {n : ℕ} (s : Fin n) : Fin 1 → Nat := ![s.val]
theorem semOff8_inb (s : Fin 8) : ∀ a, semOff s a + S1.size a ≤ S8.size a := by
  have := s.isLt; intro a; fin_cases a; show s.val + 1 ≤ 8; omega
theorem semOff2_inb (s : Fin 2) : ∀ a, semOff s a + S1.size a ≤ S2.size a := by
  have := s.isLt; intro a; fin_cases a; show s.val + 1 ≤ 2; omega

abbrev xM : Memref sig .tc .hbm S4096x1024 .f32 := Memref.whole main_arg0
abbrev yM : Memref sig .tc .hbm S4096x1024 .f32 := Memref.whole main_v2_0
abbrev inM : Memref sig .tc .vmem S8x512x1024 .f32 := Memref.whole cc0_scoped0
abbrev outM : Memref sig .tc .vmem S2x512x1024 .f32 := Memref.whole cc0_scoped2

/-- Block `b` of `x` and of `y`, as the body slices them; -/
def xblk (b : Fin 8) : Memref sig .tc .hbm S512x1024 .f32 :=
  xM.slice (Rect.unit (s := S4096x1024) (rowOff b) S512x1024.size (rowOff_inb b)) (fun _ => rfl)
def yblk (b : Fin 8) : Memref sig .tc .hbm S512x1024 .f32 :=
  yM.slice (Rect.unit (s := S4096x1024) (rowOff b) S512x1024.size (rowOff_inb b)) (fun _ => rfl)
/-- slot `s` of the buffer read and of the buffer written, sliced and squeezed; -/
def xslot (s : Fin 8) : Memref sig .tc .vmem S512x1024 .f32 :=
  (inM.slice (Rect.unit (s := S8x512x1024) (slotOff s) S1x512x1024.size (slotOff8_inb s)) (fun _ => rfl)).squeeze S512x1024 squeezes_S1x512x1024_S512x1024
def yslot (s : Fin 2) : Memref sig .tc .vmem S512x1024 .f32 :=
  (outM.slice (Rect.unit (s := S2x512x1024) (slotOff s) S1x512x1024.size (slotOff2_inb s)) (fun _ => rfl)).squeeze S512x1024 squeezes_S1x512x1024_S512x1024
/-- their DMA semaphores. -/
def xsem (s : Fin 8) : DmaSems sig S_ := (cc0_scoped1.slice (Rect.unit (s := S8) (semOff s) S1.size (semOff8_inb s))).squeeze S_ squeezes_S1_S_
def ysem (s : Fin 2) : DmaSems sig S_ := (cc0_scoped3.slice (Rect.unit (s := S2) (semOff s) S1.size (semOff2_inb s))).squeeze S_ squeezes_S1_S_

/-! ## The offsets in closed form -/

theorem off21 : ∀ k : Trip, k.val = 0 → k0_off21 (w7 k) = semOff (7 : Fin 8) := by decide
theorem off22 : ∀ k : Trip, k.val = 0 → k0_off22 (w7 k) = slotOff (7 : Fin 8) := by decide
theorem off23 : ∀ k : Trip, k.val = 0 → k0_off23 (w11 k) = rowOff 7 := by decide
theorem off24 : ∀ k : Trip, k0_off24 (w8 k) = semOff (Ring.bk 8 k) := by decide
theorem off25 : ∀ k : Trip, k0_off25 (w8 k) = slotOff (Ring.bk 8 k) := by decide
theorem off26 : ∀ k : Trip, k0_off26 (w11 k) = rowOff (Ring.bk 8 k) := by decide
theorem off27 : ∀ k : Trip, k0_off27 (w8 k) = slotOff (Ring.bk 8 k) := by decide
theorem off28 : ∀ k : Trip, k0_off28 (w9 k) = slotOff (Ring.sl 2 k) := by decide
theorem off29 : ∀ k : Trip, k0_off29 (w9 k) = semOff (Ring.sl 2 k) := by decide
theorem off30 : ∀ k : Trip, k0_off30 (w11 k) = rowOff (Ring.bk 8 k) := by decide
theorem off31 : ∀ k : Trip, k0_off31 (w9 k) = slotOff (Ring.sl 2 k) := by decide
theorem off32 : ∀ k : Trip, k.val ≠ 0 → k0_off32 (w10 k) = semOff (Ring.sl 2 (k - 1)) := by decide
theorem off33 : ∀ k : Trip, k.val ≠ 0 → k0_off33 (w11 k) = rowOff (Ring.bk 8 (k - 1)) := by decide
theorem off34 : ∀ k : Trip, k.val ≠ 0 → k0_off34 (w10 k) = slotOff (Ring.sl 2 (k - 1)) := by decide
theorem off35 : k0_off35 (w10 8) = semOff (1 : Fin 2) := by decide
theorem off36 : k0_off36 (w11 8) = rowOff 7 := by decide
theorem off37 : k0_off37 (w10 8) = slotOff (1 : Fin 2) := by decide

instance (s : Fin 8) : ClosedOff (slotOff s) := ⟨slotOff s, rfl⟩
instance (s : Fin 2) : ClosedOff (slotOff s) := ⟨slotOff s, rfl⟩
instance (b : Fin 8) : ClosedOff (rowOff b) := ⟨rowOff b, rfl⟩

/-- The window of the trip's loads and of its store, through the whole buffers. -/
instance (k : Trip) : ClosedOff (k0_off27 (w8 k)) := ⟨slotOff (Ring.bk 8 k), off27 k⟩
instance (k : Trip) : ClosedOff (k0_off28 (w9 k)) := ⟨slotOff (Ring.sl 2 k), off28 k⟩

/-! ## The body's slices are those named -/

theorem xsem_congr {off : Fin 1 → Nat} {s : Fin 8} (e : off = semOff s) (hh) :
    (cc0_scoped1.slice (Rect.unit (s := S8) off S1.size hh)).squeeze S_ squeezes_S1_S_ = xsem s :=
  congrArg (fun A : DmaSems sig S1 => A.squeeze S_ squeezes_S1_S_) (SemArray.slice_unit_congr _ e _ _)
theorem ysem_congr {off : Fin 1 → Nat} {s : Fin 2} (e : off = semOff s) (hh) :
    (cc0_scoped3.slice (Rect.unit (s := S2) off S1.size hh)).squeeze S_ squeezes_S1_S_ = ysem s :=
  congrArg (fun A : DmaSems sig S1 => A.squeeze S_ squeezes_S1_S_) (SemArray.slice_unit_congr _ e _ _)
theorem xslot_congr {off : Fin 3 → Nat} {s : Fin 8} (e : off = slotOff s) (hh hs) :
    (inM.slice (Rect.unit (s := S8x512x1024) off S1x512x1024.size hh) hs).squeeze S512x1024 squeezes_S1x512x1024_S512x1024 = xslot s :=
  congrArg (fun M : Memref sig .tc .vmem S1x512x1024 .f32 => M.squeeze S512x1024 squeezes_S1x512x1024_S512x1024) (Memref.slice_unit_congr _ e _ _ _ _)
theorem yslot_congr {off : Fin 3 → Nat} {s : Fin 2} (e : off = slotOff s) (hh hs) :
    (outM.slice (Rect.unit (s := S2x512x1024) off S1x512x1024.size hh) hs).squeeze S512x1024 squeezes_S1x512x1024_S512x1024 = yslot s :=
  congrArg (fun M : Memref sig .tc .vmem S1x512x1024 .f32 => M.squeeze S512x1024 squeezes_S1x512x1024_S512x1024) (Memref.slice_unit_congr _ e _ _ _ _)
theorem xblk_congr {off : Fin 2 → Nat} {b : Fin 8} (e : off = rowOff b) (hh hs) :
    xM.slice (Rect.unit (s := S4096x1024) off S512x1024.size hh) hs = xblk b := by subst e; rfl
theorem yblk_congr {off : Fin 2 → Nat} {b : Fin 8} (e : off = rowOff b) (hh hs) :
    yM.slice (Rect.unit (s := S4096x1024) off S512x1024.size hh) hs = yblk b := by subst e; rfl

/-- The slices before the loop: blocks 0 to 6 of `x` into their slots. -/
@[sl_canon] theorem xsemP0 (hh) : (cc0_scoped1.slice (Rect.unit (s := S8) k0_off1 S1.size hh)).squeeze S_ squeezes_S1_S_ = xsem 0 := xsem_congr (by decide) _
@[sl_canon] theorem xsemP1 (hh) : (cc0_scoped1.slice (Rect.unit (s := S8) k0_off3 S1.size hh)).squeeze S_ squeezes_S1_S_ = xsem 1 := xsem_congr (by decide) _
@[sl_canon] theorem xsemP2 (hh) : (cc0_scoped1.slice (Rect.unit (s := S8) k0_off6 S1.size hh)).squeeze S_ squeezes_S1_S_ = xsem 2 := xsem_congr (by decide) _
@[sl_canon] theorem xsemP3 (hh) : (cc0_scoped1.slice (Rect.unit (s := S8) k0_off9 S1.size hh)).squeeze S_ squeezes_S1_S_ = xsem 3 := xsem_congr (by decide) _
@[sl_canon] theorem xsemP4 (hh) : (cc0_scoped1.slice (Rect.unit (s := S8) k0_off12 S1.size hh)).squeeze S_ squeezes_S1_S_ = xsem 4 := xsem_congr (by decide) _
@[sl_canon] theorem xsemP5 (hh) : (cc0_scoped1.slice (Rect.unit (s := S8) k0_off15 S1.size hh)).squeeze S_ squeezes_S1_S_ = xsem 5 := xsem_congr (by decide) _
@[sl_canon] theorem xsemP6 (hh) : (cc0_scoped1.slice (Rect.unit (s := S8) k0_off18 S1.size hh)).squeeze S_ squeezes_S1_S_ = xsem 6 := xsem_congr (by decide) _
@[sl_canon] theorem xslotP0 (hh hs) : (inM.slice (Rect.unit (s := S8x512x1024) k0_off2 S1x512x1024.size hh) hs).squeeze S512x1024 squeezes_S1x512x1024_S512x1024 = xslot 0 := xslot_congr (by decide) _ _
@[sl_canon] theorem xslotP1 (hh hs) : (inM.slice (Rect.unit (s := S8x512x1024) k0_off4 S1x512x1024.size hh) hs).squeeze S512x1024 squeezes_S1x512x1024_S512x1024 = xslot 1 := xslot_congr (by decide) _ _
@[sl_canon] theorem xslotP2 (hh hs) : (inM.slice (Rect.unit (s := S8x512x1024) k0_off7 S1x512x1024.size hh) hs).squeeze S512x1024 squeezes_S1x512x1024_S512x1024 = xslot 2 := xslot_congr (by decide) _ _
@[sl_canon] theorem xslotP3 (hh hs) : (inM.slice (Rect.unit (s := S8x512x1024) k0_off10 S1x512x1024.size hh) hs).squeeze S512x1024 squeezes_S1x512x1024_S512x1024 = xslot 3 := xslot_congr (by decide) _ _
@[sl_canon] theorem xslotP4 (hh hs) : (inM.slice (Rect.unit (s := S8x512x1024) k0_off13 S1x512x1024.size hh) hs).squeeze S512x1024 squeezes_S1x512x1024_S512x1024 = xslot 4 := xslot_congr (by decide) _ _
@[sl_canon] theorem xslotP5 (hh hs) : (inM.slice (Rect.unit (s := S8x512x1024) k0_off16 S1x512x1024.size hh) hs).squeeze S512x1024 squeezes_S1x512x1024_S512x1024 = xslot 5 := xslot_congr (by decide) _ _
@[sl_canon] theorem xslotP6 (hh hs) : (inM.slice (Rect.unit (s := S8x512x1024) k0_off19 S1x512x1024.size hh) hs).squeeze S512x1024 squeezes_S1x512x1024_S512x1024 = xslot 6 := xslot_congr (by decide) _ _
@[sl_canon] theorem xblkP0 (hh hs) : xM.slice (Rect.unit (s := S4096x1024) ![0, 0] S512x1024.size hh) hs = xblk 0 := xblk_congr (by decide) _ _
@[sl_canon] theorem xblkP1 (hh hs) : xM.slice (Rect.unit (s := S4096x1024) k0_off5 S512x1024.size hh) hs = xblk 1 := xblk_congr (by decide) _ _
@[sl_canon] theorem xblkP2 (hh hs) : xM.slice (Rect.unit (s := S4096x1024) k0_off8 S512x1024.size hh) hs = xblk 2 := xblk_congr (by decide) _ _
@[sl_canon] theorem xblkP3 (hh hs) : xM.slice (Rect.unit (s := S4096x1024) k0_off11 S512x1024.size hh) hs = xblk 3 := xblk_congr (by decide) _ _
@[sl_canon] theorem xblkP4 (hh hs) : xM.slice (Rect.unit (s := S4096x1024) k0_off14 S512x1024.size hh) hs = xblk 4 := xblk_congr (by decide) _ _
@[sl_canon] theorem xblkP5 (hh hs) : xM.slice (Rect.unit (s := S4096x1024) k0_off17 S512x1024.size hh) hs = xblk 5 := xblk_congr (by decide) _ _
@[sl_canon] theorem xblkP6 (hh hs) : xM.slice (Rect.unit (s := S4096x1024) k0_off20 S512x1024.size hh) hs = xblk 6 := xblk_congr (by decide) _ _

/-- The first trip's issue: block 7 into slot 7. -/
@[sl_canon] theorem xsemI (k : Trip) (h0 : k.val = 0) (hh) : (cc0_scoped1.slice (Rect.unit (s := S8) (k0_off21 (w7 k)) S1.size hh)).squeeze S_ squeezes_S1_S_ = xsem 7 := xsem_congr (off21 k h0) _
@[sl_canon] theorem xslotI (k : Trip) (h0 : k.val = 0) (hh hs) : (inM.slice (Rect.unit (s := S8x512x1024) (k0_off22 (w7 k)) S1x512x1024.size hh) hs).squeeze S512x1024 squeezes_S1x512x1024_S512x1024 = xslot 7 := xslot_congr (off22 k h0) _ _
@[sl_canon] theorem xblkI (k : Trip) (h0 : k.val = 0) (hh hs) : xM.slice (Rect.unit (s := S4096x1024) (k0_off23 (w11 k)) S512x1024.size hh) hs = xblk 7 := xblk_congr (off23 k h0) _ _
/-- Trip `k` waits block `k` of `x` in slot `k`, -/
@[sl_canon] theorem xsemW (k : Trip) (hh) : (cc0_scoped1.slice (Rect.unit (s := S8) (k0_off24 (w8 k)) S1.size hh)).squeeze S_ squeezes_S1_S_ = xsem (Ring.bk 8 k) := xsem_congr (off24 k) _
@[sl_canon] theorem xslotW (k : Trip) (hh hs) : (inM.slice (Rect.unit (s := S8x512x1024) (k0_off25 (w8 k)) S1x512x1024.size hh) hs).squeeze S512x1024 squeezes_S1x512x1024_S512x1024 = xslot (Ring.bk 8 k) := xslot_congr (off25 k) _ _
@[sl_canon] theorem xblkW (k : Trip) (hh hs) : xM.slice (Rect.unit (s := S4096x1024) (k0_off26 (w11 k)) S512x1024.size hh) hs = xblk (Ring.bk 8 k) := xblk_congr (off26 k) _ _
/-- issues block `k` of `y` out of slot `k mod 2`, -/
@[sl_canon] theorem ysemI (k : Trip) (hh) : (cc0_scoped3.slice (Rect.unit (s := S2) (k0_off29 (w9 k)) S1.size hh)).squeeze S_ squeezes_S1_S_ = ysem (Ring.sl 2 k) := ysem_congr (off29 k) _
@[sl_canon] theorem yslotI (k : Trip) (hh hs) : (outM.slice (Rect.unit (s := S2x512x1024) (k0_off31 (w9 k)) S1x512x1024.size hh) hs).squeeze S512x1024 squeezes_S1x512x1024_S512x1024 = yslot (Ring.sl 2 k) := yslot_congr (off31 k) _ _
@[sl_canon] theorem yblkI (k : Trip) (hh hs) : yM.slice (Rect.unit (s := S4096x1024) (k0_off30 (w11 k)) S512x1024.size hh) hs = yblk (Ring.bk 8 k) := yblk_congr (off30 k) _ _
/-- and from the second on waits block `k - 1` of `y`. -/
@[sl_canon] theorem ysemW (k : Trip) (h0 : k.val ≠ 0) (hh) : (cc0_scoped3.slice (Rect.unit (s := S2) (k0_off32 (w10 k)) S1.size hh)).squeeze S_ squeezes_S1_S_ = ysem (Ring.sl 2 (k - 1)) := ysem_congr (off32 k h0) _
@[sl_canon] theorem yslotW (k : Trip) (h0 : k.val ≠ 0) (hh hs) : (outM.slice (Rect.unit (s := S2x512x1024) (k0_off34 (w10 k)) S1x512x1024.size hh) hs).squeeze S512x1024 squeezes_S1x512x1024_S512x1024 = yslot (Ring.sl 2 (k - 1)) := yslot_congr (off34 k h0) _ _
@[sl_canon] theorem yblkW (k : Trip) (h0 : k.val ≠ 0) (hh hs) : yM.slice (Rect.unit (s := S4096x1024) (k0_off33 (w11 k)) S512x1024.size hh) hs = yblk (Ring.bk 8 (k - 1)) := yblk_congr (off33 k h0) _ _
/-- The last wait, after the loop: block 7 of `y`, out of slot 1. -/
@[sl_canon] theorem ysemE (hh) : (cc0_scoped3.slice (Rect.unit (s := S2) (k0_off35 (w10 8)) S1.size hh)).squeeze S_ squeezes_S1_S_ = ysem 1 := ysem_congr off35 _
@[sl_canon] theorem yslotE (hh hs) : (outM.slice (Rect.unit (s := S2x512x1024) (k0_off37 (w10 8)) S1x512x1024.size hh) hs).squeeze S512x1024 squeezes_S1x512x1024_S512x1024 = yslot 1 := yslot_congr off37 _ _
@[sl_canon] theorem yblkE (hh hs) : yM.slice (Rect.unit (s := S4096x1024) (k0_off36 (w11 8)) S512x1024.size hh) hs = yblk 7 := yblk_congr off36 _ _

end Cert.Proof.Moe

end
-- ==== Proof.Payload.lean ====
module

public import proofs.«01_k».proof.Proof.Ring
public import Idealize.ShloMosaic.Lib.Pipeline.Value
public import Idealize.ShloMosaic.Lib.VecWindow
public import Idealize.ShloMosaic.Lib.ValueIdxCore

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Reading a squeezed slice after a store of the whole slice gives the vector stored, shape-cast. -/
theorem read_squeeze_write {sig : RefSig} {κ : Kind} {cs : Space} {s s' : Shape} {e : EltTy} {Val : EltTy → Type} (M : Memref sig κ cs s e)
    (r : Rect s) (hr : ∀ a, r.stride a = 1) (hq : r.shape.Squeezes s') (hc : r.shape.ShapeCasts s') (f : M.view.ty.Contents Val) (w : r.shape.Idx → Val e) :
    ((M.slice r hr).squeeze s' hq).view.read Val ((M.access r).write Val f w Finset.univ) = shapeCast s' w hc := by
  rw [Memref.read_squeeze_slice M r hr hq hc, View.readAt_rect]
  exact congrArg (fun v => shapeCast s' v hc) (View.read_write_univ (v := M.access r) f w)

/-- A load at a slice's rectangle reads the squeezed slice, shape-cast back. -/
theorem readAt_unsqueeze {sig : RefSig} {κ : Kind} {cs : Space} {s s' : Shape} {e : EltTy} {Val : EltTy → Type} (M : Memref sig κ cs s e)
    (r : Rect s) (hr : ∀ a, r.stride a = 1) (hq : r.shape.Squeezes s') (hc : r.shape.ShapeCasts s') (hc' : s'.ShapeCasts r.shape) (f : M.view.ty.Contents Val) :
    M.view.readAt Val r.toLoadRect f = shapeCast r.shape (((M.slice r hr).squeeze s' hq).view.read Val f) hc' := by
  rw [Memref.read_squeeze_slice M r hr hq hc, shapeCast_shapeCast]

/-! ## What a trip computes -/

section Payload
variable (XA : S4096x1024.Idx → F .f32) (W1 : Vec F S1024x1024 .f32) (W2 : Vec F S1x1024 .f32)

/-- Block `b` of `y`: the trip's arithmetic at block `b` of `x`, the expert's weights and its bias. -/
def payAt (b : Fin 8) : Vec F S512x1024 .f32 :=
  shapeCast S512x1024 (k0_pay1 (shapeCast S1x512x1024 ((xblk b).view.read (Elt F) XA) shapeCasts_S512x1024_S1x512x1024) W1 W2) shapeCasts_S1x512x1024_S512x1024

/-- The whole of `y`, its blocks one after the other. -/
def yFinal : S4096x1024.Idx → F .f32 := fun i =>
  payAt XA W1 W2 ⟨(i 0).val / 512, by have := (i 0).isLt; change (i 0).val < 4096 at this; omega⟩
    (ValueIdx.ix2 (n0 := 512) (n1 := 1024) ⟨(i 0).val % 512, Nat.mod_lt _ (by decide)⟩ (i 1))

theorem read_yFinal (b : Fin 8) : (yblk b).view.read (Elt F) (yFinal XA W1 W2) = payAt XA W1 W2 b := by
  funext x
  have h0 : (x 0).val < 512 := (x 0).isLt
  let i : S4096x1024.Idx := (yblk b).view.emb x
  have e0 : (i 0).val = 512 * b.val + 1 * (x 0).val := rfl
  have e1 : (i 1).val = 0 + 1 * (x 1).val := rfl
  show yFinal XA W1 W2 i = _
  have hb : (⟨(i 0).val / 512, by omega⟩ : Fin 8) = b := Fin.ext (by show _ / 512 = _; omega)
  have hx : (ValueIdx.ix2 (n0 := 512) (n1 := 1024) ⟨(i 0).val % 512, Nat.mod_lt _ (by decide)⟩ (i 1) : S512x1024.Idx) = x := by
    funext a
    match a with
    | ⟨0, _⟩ => exact Fin.ext (by show (i 0).val % 512 = (x 0).val; omega)
    | ⟨1, _⟩ => exact Fin.ext (by show (i 1).val = (x 1).val; omega)
  unfold yFinal
  rw [hb, hx]

/-- A load of slot `s` through the whole buffer is the slot's contents. -/
theorem readAt_slot (s : Fin 8) {off : Fin 3 → Nat} (e : off = slotOff s) (hh) (f : inM.view.ty.Contents (Elt F)) :
    inM.view.readAt (Elt F) (Rect.unit (s := S8x512x1024) off S1x512x1024.size hh).toLoadRect f
      = shapeCast S1x512x1024 ((xslot s).view.read (Elt F) f) shapeCasts_S512x1024_S1x512x1024 := by
  subst e
  exact readAt_unsqueeze inM (Rect.unit (s := S8x512x1024) (slotOff s) S1x512x1024.size hh) (fun _ => rfl) squeezes_S1x512x1024_S512x1024
    shapeCasts_S1x512x1024_S512x1024 _ f

/-- Slot `s` of the buffer written, after a store of the whole slot. -/
theorem read_slot_write (s : Fin 2) {off : Fin 3 → Nat} (e : off = slotOff s) (hh) (f : outM.view.ty.Contents (Elt F)) (w : Vec F S1x512x1024 .f32) :
    (yslot s).view.read (Elt F) ((outM.access (Rect.unit (s := S2x512x1024) off S1x512x1024.size hh)).write (Elt F) f w Finset.univ)
      = shapeCast S512x1024 w shapeCasts_S1x512x1024_S512x1024 := by
  subst e
  exact read_squeeze_write outM (Rect.unit (s := S2x512x1024) (slotOff s) S1x512x1024.size hh) (fun _ => rfl) squeezes_S1x512x1024_S512x1024 _ f w

/-- A view written whole reads the vector written. -/
theorem read_writes_whole {sig : RefSig} {κ : Kind} {cs : Space} {s : Shape} {e : EltTy} {Val : EltTy → Type} (v : View sig κ cs s e)
    (f : v.ty.Contents Val) (w : s.Idx → Val e) : v.read Val (v.writes Val f [⟨Rect.whole s, w⟩]) = w := by
  funext y
  exact View.read_writes_cons_hit v f (Rect.whole s) w [] y y (by simp)

/-- Two contents that a view reads the same agree on the view's elements. -/
theorem agree_of_read {sig : RefSig} {κ : Kind} {cs : Space} {s : Shape} {e : EltTy} {Val : EltTy → Type} (v : View sig κ cs s e)
    (f g : v.ty.Contents Val) (h : v.read Val f = v.read Val g) : ∀ i ∈ v.set, f i = g i := by
  intro i hi
  obtain ⟨x, -, rfl⟩ := Finset.mem_map.mp hi
  have := congrFun h x
  rw [View.read_apply, View.read_apply] at this
  exact (cast_inj _).1 this

/-- What a trip's store leaves in the slot it fills, read through the slot: the block's part of `y`. -/
theorem read_pay (arg1 : Memref sig .tc .vmem S1024x1024 .f32) (arg2 : Memref sig .tc .vmem S1x1024 .f32) {b : Fin 8} {s : Fin 2}
    {o27 o28 : Fin 3 → Nat} (e27 : o27 = slotOff b) (e28 : o28 = slotOff s) (h27) (h28)
    (g1 : arg1.view.ty.Contents (Elt F)) (g2 : arg2.view.ty.Contents (Elt F)) (f0 : (xslot b).view.ty.Contents (Elt F)) (f1 : outM.view.ty.Contents (Elt F)) :
    ReadAs.same.apply ((yslot s).view.read (Elt F) ((outM.access (Rect.unit (s := S2x512x1024) o28 S1x512x1024.size h28)).write (Elt F) f1
      (k0_pay1 (inM.view.readAt (Elt F) (Rect.unit (s := S8x512x1024) o27 S1x512x1024.size h27).toLoadRect
          ((xslot b).view.writes (Elt F) f0 [⟨Rect.whole S512x1024, ReadAs.same.apply ((xblk b).view.read (Elt F) XA)⟩]))
        (arg1.view.readAt (Elt F) (Rect.unit ![0, 0] S1024x1024.size inb_S1024x1024_S1024x1024_0_0).toLoadRect g1)
        (arg2.view.readAt (Elt F) (Rect.unit ![0, 0] S1x1024.size inb_S1x1024_S1x1024_0_0).toLoadRect g2)) Finset.univ))
      = payAt XA (arg1.view.read (Elt F) g1) (arg2.view.read (Elt F) g2) b := by
  rw [ReadAs.apply_same, ReadAs.apply_same, read_slot_write s e28, View.readAt_full, View.readAt_full]
  refine congrArg (fun v => shapeCast S512x1024 (k0_pay1 v _ _) shapeCasts_S1x512x1024_S512x1024) ?_
  refine (readAt_slot (F := F) b e27 h27 _).trans ?_
  exact congrArg (fun v => shapeCast S1x512x1024 v shapeCasts_S512x1024_S1x512x1024) (read_writes_whole (xslot b).view f0 _)

end Payload

end Cert.Proof.Moe

end
-- ==== Proof.Trip.lean ====
module

public import proofs.«01_k».proof.Proof.Payload

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters
local notation "𝕄" => MT nD τ sig Unit (Elt F) ℕ (UU nD τ) ℕ
abbrev 𝒱₀ : Variants := Variants.none

section Pieces
variable (c : Dev nD) (XA : Buf (Elt F) (xM.view.loc (c : Thread nD τ)))

abbrev xcellP (s : Fin 8) : sProp 𝕄 := semVal ((c : Thread nD τ), SemLoc.dma (xsem s).sem) 0
abbrev ycellP (s : Fin 2) : sProp 𝕄 := semVal ((c : Thread nD τ), SemLoc.dma (ysem s).sem) 0
abbrev xslotP (s : Fin 8) (f : Buf (Elt F) ((xslot s).view.loc (c : Thread nD τ))) : sProp 𝕄 :=
  (xslot s).view.loc (c : Thread nD τ) ↦[(xslot s).view.set]{fullShare} f
abbrev yslotP (s : Fin 2) (f : Buf (Elt F) ((yslot s).view.loc (c : Thread nD τ))) : sProp 𝕄 :=
  (yslot s).view.loc (c : Thread nD τ) ↦[(yslot s).view.set]{fullShare} f
abbrev xblkP (b : Fin 8) : sProp 𝕄 := (xblk b).view.loc (c : Thread nD τ) ↦[(xblk b).view.set]{fullShare} XA
abbrev yblkP (b : Fin 8) (f : Buf (Elt F) ((yblk b).view.loc (c : Thread nD τ))) : sProp 𝕄 :=
  (yblk b).view.loc (c : Thread nD τ) ↦[(yblk b).view.set]{fullShare} f
abbrev landed (b : Fin 8) (f : Buf (Elt F) ((xslot b).view.loc (c : Thread nD τ))) : Buf (Elt F) ((xslot b).view.loc (c : Thread nD τ)) :=
  (xslot b).view.writes (Elt F) f [⟨Rect.whole S512x1024, ReadAs.same.apply ((xblk b).view.read (Elt F) XA)⟩]
/-- A block's transfer moves 65536 units on its semaphore. -/
abbrev xflightP (b : Fin 8) (f : Buf (Elt F) ((xslot b).view.loc (c : Thread nD τ))) : sProp 𝕄 :=
  Transfers.Flight countersEmb (c : Thread nD τ) (SemLoc.dma (xsem b).sem) default 65536 iprop(xslotP c b (landed c XA b f) ∗ xblkP c XA b)
abbrev yflightP (b : Fin 8) (s : Fin 2) (g : Buf (Elt F) ((yblk b).view.loc (c : Thread nD τ))) (f : Buf (Elt F) ((yslot s).view.loc (c : Thread nD τ))) : sProp 𝕄 :=
  Transfers.Flight countersEmb (c : Thread nD τ) (SemLoc.dma (ysem s).sem) default 65536 iprop(yblkP c b g ∗ yslotP c s f)
end Pieces

section Trip
variable (c : Dev nD) (XA : Buf (Elt F) (xM.view.loc (c : Thread nD τ)))
  (arg1 : Memref sig .tc .vmem S1024x1024 .f32) (harg1 : arg1.IsWhole)
  (arg2 : Memref sig .tc .vmem S1x1024 .f32) (harg2 : arg2.IsWhole)
  (arg3 : Memref sig .tc .vmem S8x4096 .f32) (harg3 : arg3.IsWhole)
  (arg5 : Memref sig .tc .vmem S1x1 .f32) (harg5 : arg5.IsWhole)
  (v88 v93 v138 : BitVec 32) (v139 tr : BitVec 1)

abbrev tripG (k : Trip) : Prog (TpuEff nD τ sig (Elt F) Λ₀ .tc) Carry :=
  k0_t1_body (F := F) xM (Memref.isWhole_whole _) arg1 harg1 arg2 harg2 arg3 harg3 yM (Memref.isWhole_whole _) arg5 harg5
    inM (Memref.isWhole_whole _) cc0_scoped1 outM (Memref.isWhole_whole _) cc0_scoped3 v88 v93 v138 v139 tr k (carryAt k)

abbrev stP {s : Shape} (M : Memref sig .tc .vmem s .f32) (g : Buf (Elt F) (M.view.loc (c : Thread nD τ))) : sProp 𝕄 :=
  M.view.loc (c : Thread nD τ) ↦[M.view.set]{fullShare} g

/-- What a trip hands on: the carried words, the block of `x` with its slot and its semaphore, and block `k` of `y` on its
    way out of slot `k mod 2`. -/
abbrev tripPost (k : Trip) (W1 : Vec F S1024x1024 .f32) (W2 : Vec F S1x1024 .f32) : sProp 𝕄 :=
  iprop(xblkP c XA (Ring.bk 8 k) ∗ (∃ f, xslotP c (Ring.bk 8 k) f) ∗ xcellP c (Ring.bk 8 k)
    ∗ ∃ f, yflightP c (Ring.bk 8 k) (Ring.sl 2 k) (yFinal XA W1 W2) f)

omit [FloatOps F] [Named F] in
theorem entails_of_eq {P Q : sProp 𝕄} (e : P = Q) : P ⊢ Q := e ▸ .rfl

/-- A block of `y` that has landed holds what the whole of `y` holds there. -/
theorem landed_eq (b : Fin 8) (Y0 : Buf (Elt F) ((yblk b).view.loc (c : Thread nD τ))) (W1 W2) (w : Vec F S512x1024 .f32) (h : w = payAt XA W1 W2 b) :
    (yblkP c b ((yblk b).view.writes (Elt F) Y0 [⟨Rect.whole S512x1024, w⟩]) : sProp 𝕄) = yblkP c b (yFinal XA W1 W2) :=
  pointsTo_congr (agree_of_read (yblk b).view _ _ ((read_writes_whole _ _ _).trans (h.trans (read_yFinal XA W1 W2 b).symm)))

theorem flight_landed (b : Fin 8) (s : Fin 2) (Y0 : Buf (Elt F) ((yblk b).view.loc (c : Thread nD τ))) (W1 W2) {w : Vec F S512x1024 .f32}
    (h : w = payAt XA W1 W2 b) (f) :
    (Transfers.Flight countersEmb (c : Thread nD τ) (SemLoc.dma (ysem s).sem) default 65536
      iprop(yblkP c b ((yblk b).view.writes (Elt F) Y0 [⟨Rect.whole S512x1024, w⟩]) ∗ yslotP c s f) : sProp 𝕄)
    ⊢ yflightP c b s (yFinal XA W1 W2) f := by
  rw [landed_eq c XA b Y0 W1 W2 w h]

set_option backward.proofsInPublic true in
theorem tripN (k : Trip) (h0 : k.val ≠ 0) (g1 : Buf (Elt F) (arg1.view.loc (c : Thread nD τ))) (g2 : Buf (Elt F) (arg2.view.loc (c : Thread nD τ)))
    (f0 f1 Y0 Y1 f2) (W) (Q : Carry → sProp 𝕄) :
    iprop(stP c arg1 g1 ∗ stP c arg2 g2 ∗ owes (c : Thread nD τ) 0 W ∗ xflightP c XA (Ring.bk 8 k) f0
      ∗ yblkP c (Ring.bk 8 k) Y0 ∗ yslotP c (Ring.sl 2 k) f1 ∗ ycellP c (Ring.sl 2 k) ∗ yflightP c (Ring.bk 8 (k - 1)) (Ring.sl 2 (k - 1)) Y1 f2
      ∗ ((stP c arg1 g1 ∗ stP c arg2 g2 ∗ (∃ W', owes (c : Thread nD τ) 0 W') ∗ tripPost c XA k (arg1.view.read (Elt F) g1) (arg2.view.read (Elt F) g2)
        ∗ yblkP c (Ring.bk 8 (k - 1)) Y1 ∗ yslotP c (Ring.sl 2 (k - 1)) f2 ∗ ycellP c (Ring.sl 2 (k - 1))) -∗ Q (carryAt (k.val + 1))))
    ⊢ wp frame (wpE (defs₀ (F := F)) 𝒱₀ (c : Thread nD τ) none) Set.univ (tripG arg1 harg1 arg2 harg2 arg3 harg3 arg5 harg5 v88 v93 v138 v139 tr k) Q := by
  have h7 : ¬ k0_cond7 k (w11 k) = 1#1 := fun h => h0 ((cond7 k).1 h)
  have h8 := cond8 k
  have h11 := cond11 k
  have h13 := (cond13 k).2 h0
  have c1 := chk1 k
  have c2 := chk2 k
  have c3 := chk3 k
  iintro ⟨H1, H2, HW, HX, HY, HS, HC, HF, HQ⟩
  dsimp only [tripG]
  sl_unfold [k0_t1_body]
  sl_exec
  have e : ∀ j : Trip, ((8#32, tripN.sl.v334_r0 j, tripN.sl.v316_r0 j, tripN.sl.v330_r0 j, tripN.sl.v223_r0 j) : Carry) = carryAt (j.val + 1) := by decide
  rw [e k]
  sl_step
  have hp : tripN.sl.dma5 c XA arg1 arg2 k g1 g2 f1 c2 c3 = payAt XA (arg1.view.read (Elt F) g1) (arg2.view.read (Elt F) g2) (Ring.bk 8 k) := by
    unfold tripN.sl.dma5 tripN.sl.HS_w1 tripN.sl.v289_r0
    exact read_pay XA arg1 arg2 (off27 k) (off28 k) _ _ g1 g2 _ f1
  ihave HC := (flight_landed c XA (Ring.bk 8 k) (Ring.sl 2 k) Y0 _ _ hp (tripN.sl.HS_w1 c XA arg1 arg2 k g1 g2 f1 c2 c3)) $$ HC
  iapply HQ
  isplitl [H1]; · iexact H1
  isplitl [H2]; · iexact H2
  isplitl [HW]; · iexists _; iexact HW
  isplitl [HX HX_src HX_dst HC]
  · isplitl [HX_src]; · iexact HX_src
    isplitl [HX_dst]; · iexists _; iexact HX_dst
    isplitl [HX]; · iexact HX
    iexists _; iexact HC
  isplitl [HF_dst]; · iexact HF_dst
  isplitl [HF_src]; · iexact HF_src
  iexact HF

set_option backward.proofsInPublic true in
/-- The first trip: it issues block 7 of `x` as well, and waits no block of `y`. -/
theorem trip0 (k : Trip) (h0 : k.val = 0) (g1 : Buf (Elt F) (arg1.view.loc (c : Thread nD τ))) (g2 : Buf (Elt F) (arg2.view.loc (c : Thread nD τ)))
    (f0 f1 Y0 f7) (W) (Q : Carry → sProp 𝕄) :
    iprop(stP c arg1 g1 ∗ stP c arg2 g2 ∗ owes (c : Thread nD τ) 0 W ∗ xflightP c XA (Ring.bk 8 k) f0
      ∗ yblkP c (Ring.bk 8 k) Y0 ∗ yslotP c (Ring.sl 2 k) f1 ∗ ycellP c (Ring.sl 2 k) ∗ xblkP c XA 7 ∗ xslotP c 7 f7 ∗ xcellP c 7
      ∗ ((stP c arg1 g1 ∗ stP c arg2 g2 ∗ (∃ W', owes (c : Thread nD τ) 0 W') ∗ tripPost c XA k (arg1.view.read (Elt F) g1) (arg2.view.read (Elt F) g2)
        ∗ ∃ f, xflightP c XA 7 f) -∗ Q (carryAt (k.val + 1))))
    ⊢ wp frame (wpE (defs₀ (F := F)) 𝒱₀ (c : Thread nD τ) none) Set.univ (tripG arg1 harg1 arg2 harg2 arg3 harg3 arg5 harg5 v88 v93 v138 v139 tr k) Q := by
  have h7 := (cond7 k).2 h0
  have h8 := cond8 k
  have h11 := cond11 k
  have h13 : ¬ k0_cond13 k (w11 k) = 1#1 := fun h => (cond13 k).1 h h0
  have c1 := chk1 k
  have c2 := chk2 k
  have c3 := chk3 k
  iintro ⟨H1, H2, HW, HX, HY, HS, HC, HB7, HS7, HC7, HQ⟩
  dsimp only [tripG]
  sl_unfold [k0_t1_body]
  sl_exec
  have e : ∀ j : Trip, ((8#32, trip0.sl.v334_r0 j, trip0.sl.v316_r0 j, trip0.sl.v330_r0 j, trip0.sl.v223_r0 j) : Carry) = carryAt (j.val + 1) := by decide
  rw [e k]
  sl_step
  have hp : trip0.sl.dma5 c XA arg1 arg2 k g1 g2 f1 c2 c3 = payAt XA (arg1.view.read (Elt F) g1) (arg2.view.read (Elt F) g2) (Ring.bk 8 k) := by
    unfold trip0.sl.dma5 trip0.sl.HS_w1 trip0.sl.v289_r0
    exact read_pay XA arg1 arg2 (off27 k) (off28 k) _ _ g1 g2 _ f1
  ihave HC := (flight_landed c XA (Ring.bk 8 k) (Ring.sl 2 k) Y0 _ _ hp (trip0.sl.HS_w1 c XA arg1 arg2 k g1 g2 f1 c2 c3)) $$ HC
  iapply HQ
  isplitl [H1]; · iexact H1
  isplitl [H2]; · iexact H2
  isplitl [HW]; · iexists _; iexact HW
  isplitl [HX HX_src HX_dst HC]
  · isplitl [HX_src]; · iexact HX_src
    isplitl [HX_dst]; · iexists _; iexact HX_dst
    isplitl [HX]; · iexact HX
    iexists _; iexact HC
  iexists f7
  iexact HC7
end Trip

end Cert.Proof.Moe

end
-- ==== Proof.Loop.lean ====
module

public import proofs.«01_k».proof.Proof.Trip

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## Taking one or two members of a family out and putting them back changed -/

section Swap
variable {I : Type} [Fintype I] [DecidableEq I]

omit [FloatOps F] [Named F] [Fintype I] in
theorem bigSep_out {s : Finset I} {a : I} (h : a ∈ s) (Φ : I → sProp 𝕄) : bigSep s Φ = iprop(Φ a ∗ bigSep (s.erase a) Φ) := bigSep_erase h

omit [FloatOps F] [Named F] in
theorem bigSep_swap (Φ Ψ : I → sProp 𝕄) (a : I) (h : ∀ b, b ≠ a → Φ b = Ψ b) :
    bigSep Finset.univ Φ ⊢ iprop(Φ a ∗ (Ψ a -∗ bigSep Finset.univ Ψ)) := by
  rw [bigSep_out (Finset.mem_univ a) Φ, bigSep_out (Finset.mem_univ a) Ψ,
    bigSep_congr (s := Finset.univ.erase a) (Φ := Φ) (Ψ := Ψ) fun b hb => h b (Finset.ne_of_mem_erase hb)]
  iintro ⟨Ha, H⟩
  isplitl [Ha]; · iexact Ha
  iintro Hb
  isplitl [Hb]; · iexact Hb
  iexact H

omit [FloatOps F] [Named F] in
theorem bigSep_swap2 (Φ Ψ : I → sProp 𝕄) (a a' : I) (ha : a ≠ a') (h : ∀ b, b ≠ a → b ≠ a' → Φ b = Ψ b) :
    bigSep Finset.univ Φ ⊢ iprop(Φ a ∗ Φ a' ∗ (Ψ a -∗ Ψ a' -∗ bigSep Finset.univ Ψ)) := by
  have ma : a' ∈ Finset.univ.erase a := Finset.mem_erase.2 ⟨ha.symm, Finset.mem_univ _⟩
  rw [bigSep_out (Finset.mem_univ a) Φ, bigSep_out ma Φ, bigSep_out (Finset.mem_univ a) Ψ, bigSep_out ma Ψ,
    bigSep_congr (s := (Finset.univ.erase a).erase a') (Φ := Φ) (Ψ := Ψ) fun b hb => h b (Finset.ne_of_mem_erase (Finset.mem_of_mem_erase hb)) (Finset.ne_of_mem_erase hb)]
  iintro ⟨Ha, Ha', H⟩
  isplitl [Ha]; · iexact Ha
  isplitl [Ha']; · iexact Ha'
  iintro Hb Hb'
  isplitl [Hb]; · iexact Hb
  isplitl [Hb']; · iexact Hb'
  iexact H
end Swap

/-! ## The loop's invariant -/

section Inv
variable (c : Dev nD) (XA : Buf (Elt F) (xM.view.loc (c : Thread nD τ)))
  (arg1 : Memref sig .tc .vmem S1024x1024 .f32) (harg1 : arg1.IsWhole)
  (arg2 : Memref sig .tc .vmem S1x1024 .f32) (harg2 : arg2.IsWhole)
  (arg3 : Memref sig .tc .vmem S8x4096 .f32) (harg3 : arg3.IsWhole)
  (arg5 : Memref sig .tc .vmem S1x1 .f32) (harg5 : arg5.IsWhole)
  (v88 v93 v138 : BitVec 32) (v139 tr : BitVec 1)
  (g1 : Buf (Elt F) (arg1.view.loc (c : Thread nD τ))) (g2 : Buf (Elt F) (arg2.view.loc (c : Thread nD τ)))
  (Y0 : Buf (Elt F) (yM.view.loc (c : Thread nD τ)))

/-- Block `b` of `x` at rest: the block, its slot at anything, its semaphore at zero; -/
abbrev idleP (b : Fin 8) : sProp 𝕄 := iprop(xblkP c XA b ∗ (∃ f, xslotP c b f) ∗ xcellP c b)
/-- before trip `k` the blocks below `k` are at rest again, and at the first trip block 7 has not been issued: the
    others are on their way. -/
def rdSt (k : ℕ) (b : Fin 8) : sProp 𝕄 :=
  if b.val < k ∨ (b.val = 7 ∧ k = 0) then idleP c XA b else iprop(∃ f, xflightP c XA b f)
/-- Block `b` of `y`: written below `k`, as it was from `k` on, and block `k - 1` is with its transfer. -/
def wrSt (G : Buf (Elt F) (yM.view.loc (c : Thread nD τ))) (k : ℕ) (b : Fin 8) : sProp 𝕄 :=
  if b.val + 1 = k then iprop(emp) else if b.val < k then yblkP c b G else yblkP c b Y0
/-- The two slots written from: both free before the first trip, then one of them with its transfer. -/
def outSt (G : Buf (Elt F) (yM.view.loc (c : Thread nD τ))) (k : ℕ) : sProp 𝕄 :=
  if k = 0 then iprop((∃ f, yslotP c 0 f) ∗ ycellP c 0 ∗ (∃ f, yslotP c 1 f) ∗ ycellP c 1)
  else iprop((∃ f, yslotP c (Ring.sl 2 k) f) ∗ ycellP c (Ring.sl 2 k) ∗ ∃ f, yflightP c (Ring.bk 8 (k - 1)) (Ring.sl 2 (k - 1)) G f)

omit [FloatOps F] [Named F] in
theorem rdSt_idle {k : ℕ} {b : Fin 8} (h : b.val < k ∨ (b.val = 7 ∧ k = 0)) : rdSt c XA k b = idleP c XA b := if_pos h
omit [FloatOps F] [Named F] in
theorem rdSt_flight {k : ℕ} {b : Fin 8} (h : ¬ (b.val < k ∨ (b.val = 7 ∧ k = 0))) : rdSt c XA k b = iprop(∃ f, xflightP c XA b f) := if_neg h
omit [FloatOps F] [Named F] in
theorem wrSt_out (G : Buf (Elt F) (yM.view.loc (c : Thread nD τ))) {k : ℕ} {b : Fin 8} (h : b.val + 1 = k) : wrSt c Y0 G k b = iprop(emp) := if_pos h
omit [FloatOps F] [Named F] in
theorem wrSt_done (G : Buf (Elt F) (yM.view.loc (c : Thread nD τ))) {k : ℕ} {b : Fin 8} (h : b.val + 1 ≠ k) (h' : b.val < k) : wrSt c Y0 G k b = yblkP c b G := (if_neg h).trans (if_pos h')
omit [FloatOps F] [Named F] in
theorem wrSt_todo (G : Buf (Elt F) (yM.view.loc (c : Thread nD τ))) {k : ℕ} {b : Fin 8} (h : k ≤ b.val) : wrSt c Y0 G k b = yblkP c b Y0 := (if_neg (by omega)).trans (if_neg (by omega))
omit [FloatOps F] [Named F] in
theorem outSt_zero (G : Buf (Elt F) (yM.view.loc (c : Thread nD τ))) : outSt c G 0 = iprop((∃ f, yslotP c 0 f) ∗ ycellP c 0 ∗ (∃ f, yslotP c 1 f) ∗ ycellP c 1) := if_pos rfl
omit [FloatOps F] [Named F] in
theorem outSt_pos (G : Buf (Elt F) (yM.view.loc (c : Thread nD τ))) {k : ℕ} (h : k ≠ 0) : outSt c G k
    = iprop((∃ f, yslotP c (Ring.sl 2 k) f) ∗ ycellP c (Ring.sl 2 k) ∗ ∃ f, yflightP c (Ring.bk 8 (k - 1)) (Ring.sl 2 (k - 1)) G f) := if_neg h
omit [FloatOps F] [Named F] in
theorem outSt_succ (G : Buf (Elt F) (yM.view.loc (c : Thread nD τ))) (k : ℕ) {s : Fin 2} (h : Ring.sl 2 (k + 1) = s) : outSt c G (k + 1)
    = iprop((∃ f, yslotP c s f) ∗ ycellP c s ∗ ∃ f, yflightP c (Ring.bk 8 k) (Ring.sl 2 k) G f) := by
  subst h; exact if_neg (Nat.succ_ne_zero k)
omit [FloatOps F] [Named F] in
/-- A block's state changes at its own trip, and block 7's at the first as well; -/
theorem rdSt_same {k : ℕ} {b : Fin 8} (h : b.val ≠ k) (h7 : k = 0 → b.val ≠ 7) : rdSt c XA k b = rdSt c XA (k + 1) b := by
  unfold rdSt; congr 1; simp only [eq_iff_iff]; omega
omit [FloatOps F] [Named F] in
/-- a block of `y`'s at its own trip and at the next. -/
theorem wrSt_same (G : Buf (Elt F) (yM.view.loc (c : Thread nD τ))) {k : ℕ} {b : Fin 8} (h : b.val ≠ k) (h' : b.val + 1 ≠ k) : wrSt c Y0 G k b = wrSt c Y0 G (k + 1) b := by
  by_cases hb : b.val < k
  · rw [wrSt_done c Y0 G h' hb, wrSt_done c Y0 G (by omega) (by omega)]
  · rw [wrSt_todo c Y0 G (by omega), wrSt_todo c Y0 G (by omega)]

/-- The whole of `y` at the weights and the bias staged. -/
abbrev yOut : Buf (Elt F) (yM.view.loc (c : Thread nD τ)) := yFinal XA (arg1.view.read (Elt F) g1) (arg2.view.read (Elt F) g2)

def loopInv (k : ℕ) (acc : Carry) : sProp 𝕄 :=
  iprop(⌜acc = carryAt k⌝ ∗ stP c arg1 g1 ∗ stP c arg2 g2 ∗ (∃ W, owes (c : Thread nD τ) 0 W) ∗ bigSep Finset.univ (rdSt c XA k)
    ∗ bigSep Finset.univ (wrSt c Y0 (yOut c XA arg1 arg2 g1 g2) k)
    ∗ outSt c (yOut c XA arg1 arg2 g1 g2) k)

theorem trip_lt (k : Trip) : k.val < 8 := lt_of_lt_of_eq k.isLt trips_eq
theorem bk_val (k : Trip) : (Ring.bk 8 k.val).val = k.val := Ring.bk_val (trip_lt k)

theorem step0 (k : Trip) (h0 : k.val = 0) :
    loopInv c XA arg1 arg2 g1 g2 Y0 k (carryAt k)
      ⊢ wp frame (wpE (defs₀ (F := F)) 𝒱₀ (c : Thread nD τ) none) Set.univ (tripG arg1 harg1 arg2 harg2 arg3 harg3 arg5 harg5 v88 v93 v138 v139 tr k)
        (loopInv c XA arg1 arg2 g1 g2 Y0 (k.val + 1)) := by
  have hk := bk_val k
  have h7 : ((7 : Fin 8) : Fin 8).val = 7 := rfl
  have hs0 : Ring.sl 2 k.val = 0 := Fin.ext (by show k.val % 2 = 0; omega)
  have hs1 : Ring.sl 2 (k.val + 1) = 1 := Fin.ext (by show (k.val + 1) % 2 = 1; omega)
  unfold loopInv
  iintro ⟨-, H1, H2, ⟨%W, HW⟩, HR, HY, HO⟩
  ihave HR := (bigSep_swap2 (rdSt c XA k) (rdSt c XA (k.val + 1)) (Ring.bk 8 k.val) 7 (fun e => by have := congrArg Fin.val e; omega) (fun b hb hb7 => rdSt_same c XA (fun e => hb (Fin.ext (e.trans hk.symm))) (fun _ e => hb7 (Fin.ext e)))) $$ HR
  icases HR with ⟨Hf, H7, HR⟩
  ihave HY := (bigSep_swap (wrSt c Y0 (yOut c XA arg1 arg2 g1 g2) k)
    (wrSt c Y0 (yOut c XA arg1 arg2 g1 g2) (k.val + 1)) (Ring.bk 8 k.val) (fun b hb => wrSt_same c Y0 _ (fun e => hb (Fin.ext (e.trans hk.symm))) (by omega))) $$ HY
  icases HY with ⟨Hy, HY⟩
  ihave Hf := (entails_of_eq (rdSt_flight c XA (by omega))) $$ Hf
  ihave H7 := (entails_of_eq (rdSt_idle c XA (by omega))) $$ H7
  ihave Hy := (entails_of_eq (wrSt_todo c Y0 _ (by omega))) $$ Hy
  ihave HO := (entails_of_eq (show outSt c (yOut c XA arg1 arg2 g1 g2) k
    = iprop((∃ f, yslotP c (Ring.sl 2 k) f) ∗ ycellP c (Ring.sl 2 k) ∗ (∃ f, yslotP c (Ring.sl 2 (k.val + 1)) f) ∗ ycellP c (Ring.sl 2 (k.val + 1))) from by
      unfold outSt; rw [if_pos h0, hs0, hs1])) $$ HO
  icases Hf with ⟨%f0, Hf⟩
  icases H7 with ⟨Hb7, ⟨%f7, Hs7⟩, Hc7⟩
  icases HO with ⟨⟨%f1, Hs⟩, Hc, Hs', Hc'⟩
  iapply (trip0 c XA arg1 harg1 arg2 harg2 arg3 harg3 arg5 harg5 v88 v93 v138 v139 tr k h0 g1 g2 f0 f1 Y0 f7 W)
  isplitl [H1]; · iexact H1
  isplitl [H2]; · iexact H2
  isplitl [HW]; · iexact HW
  isplitl [Hf]; · iexact Hf
  isplitl [Hy]; · iexact Hy
  isplitl [Hs]; · iexact Hs
  isplitl [Hc]; · iexact Hc
  isplitl [Hb7]; · iexact Hb7
  isplitl [Hs7]; · iexact Hs7
  isplitl [Hc7]; · iexact Hc7
  iintro ⟨H1, H2, HW, ⟨Hb, Hsl, Hcl, Hfl⟩, Hf7⟩
  isplitr; · ipureintro; rfl
  isplitl [H1]; · iexact H1
  isplitl [H2]; · iexact H2
  isplitl [HW]; · iexact HW
  isplitl [HR Hb Hsl Hcl Hf7]
  · ihave HR := HR $$ [Hb Hsl Hcl]
    · iapply (entails_of_eq (rdSt_idle c XA (by omega)).symm)
      isplitl [Hb]; · iexact Hb
      isplitl [Hsl]; · iexact Hsl
      iexact Hcl
    iapply HR
    iapply (entails_of_eq (rdSt_flight c XA (by omega)).symm)
    iexact Hf7
  isplitl [HY]
  · iapply HY
    iapply (entails_of_eq (wrSt_out c Y0 _ (by omega)).symm)
    exact .rfl
  iapply (entails_of_eq (outSt_succ c (yOut c XA arg1 arg2 g1 g2) k.val rfl).symm)
  isplitl [Hs']; · iexact Hs'
  isplitl [Hc']; · iexact Hc'
  iexact Hfl

theorem stepN (k : Trip) (h0 : k.val ≠ 0) :
    loopInv c XA arg1 arg2 g1 g2 Y0 k (carryAt k)
      ⊢ wp frame (wpE (defs₀ (F := F)) 𝒱₀ (c : Thread nD τ) none) Set.univ (tripG arg1 harg1 arg2 harg2 arg3 harg3 arg5 harg5 v88 v93 v138 v139 tr k)
        (loopInv c XA arg1 arg2 g1 g2 Y0 (k.val + 1)) := by
  have hk := bk_val k
  have hk' : (Ring.bk 8 (k.val - 1)).val = k.val - 1 := Ring.bk_val (by have := trip_lt k; omega)
  have hs : Ring.sl 2 (k.val + 1) = Ring.sl 2 (k.val - 1) := by
    refine Fin.ext ?_; show (k.val + 1) % 2 = (k.val - 1) % 2; omega
  unfold loopInv
  iintro ⟨-, H1, H2, ⟨%W, HW⟩, HR, HY, HO⟩
  ihave HR := (bigSep_swap (rdSt c XA k) (rdSt c XA (k.val + 1)) (Ring.bk 8 k.val) (fun b hb => rdSt_same c XA (fun e => hb (Fin.ext (e.trans hk.symm))) (fun e => absurd e h0))) $$ HR
  icases HR with ⟨Hf, HR⟩
  ihave HY := (bigSep_swap2 (wrSt c Y0 (yOut c XA arg1 arg2 g1 g2) k)
    (wrSt c Y0 (yOut c XA arg1 arg2 g1 g2) (k.val + 1)) (Ring.bk 8 k.val) (Ring.bk 8 (k.val - 1))
    (fun e => by have := congrArg Fin.val e; omega) (fun b hb hb' => wrSt_same c Y0 _ (fun e => hb (Fin.ext (e.trans hk.symm))) (fun e => hb' (Fin.ext (by omega))))) $$ HY
  icases HY with ⟨Hy, -, HY⟩
  ihave Hf := (entails_of_eq (rdSt_flight c XA (by omega))) $$ Hf
  ihave Hy := (entails_of_eq (wrSt_todo c Y0 _ (by omega))) $$ Hy
  ihave HO := (entails_of_eq (outSt_pos c _ h0)) $$ HO
  icases Hf with ⟨%f0, Hf⟩
  icases HO with ⟨⟨%f1, Hs⟩, Hc, ⟨%f2, Hw⟩⟩
  iapply (tripN c XA arg1 harg1 arg2 harg2 arg3 harg3 arg5 harg5 v88 v93 v138 v139 tr k h0 g1 g2 f0 f1 Y0 _ f2 W)
  isplitl [H1]; · iexact H1
  isplitl [H2]; · iexact H2
  isplitl [HW]; · iexact HW
  isplitl [Hf]; · iexact Hf
  isplitl [Hy]; · iexact Hy
  isplitl [Hs]; · iexact Hs
  isplitl [Hc]; · iexact Hc
  isplitl [Hw]; · iexact Hw
  iintro ⟨H1, H2, HW, ⟨Hb, Hsl, Hcl, Hfl⟩, Hy, Hs, Hc⟩
  isplitr; · ipureintro; rfl
  isplitl [H1]; · iexact H1
  isplitl [H2]; · iexact H2
  isplitl [HW]; · iexact HW
  isplitl [HR Hb Hsl Hcl]
  · iapply HR
    iapply (entails_of_eq (rdSt_idle c XA (by omega)).symm)
    isplitl [Hb]; · iexact Hb
    isplitl [Hsl]; · iexact Hsl
    iexact Hcl
  isplitl [HY Hy]
  · ihave HY := HY $$ []
    · iapply (entails_of_eq (wrSt_out c Y0 _ (by omega)).symm)
      exact .rfl
    iapply HY
    iapply (entails_of_eq (wrSt_done c Y0 _ (by omega) (by omega)).symm)
    iexact Hy
  iapply (entails_of_eq (outSt_succ c (yOut c XA arg1 arg2 g1 g2) k.val hs).symm)
  isplitl [Hs]; · iexists f2; iexact Hs
  isplitl [Hc]; · iexact Hc
  iexact Hfl
end Inv

end Cert.Proof.Moe

end
-- ==== Proof.Body.lean ====
module

public import proofs.«01_k».proof.Proof.Loop

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## The whole body -/

section Body
variable (c : Dev nD) (XA : Buf (Elt F) (xM.view.loc (c : Thread nD τ)))
  (arg1 : Memref sig .tc .vmem S1024x1024 .f32) (harg1 : arg1.IsWhole)
  (arg2 : Memref sig .tc .vmem S1x1024 .f32) (harg2 : arg2.IsWhole)
  (arg3 : Memref sig .tc .vmem S8x4096 .f32) (harg3 : arg3.IsWhole)
  (arg5 : Memref sig .tc .vmem S1x1 .f32) (harg5 : arg5.IsWhole)
  (g1 : Buf (Elt F) (arg1.view.loc (c : Thread nD τ))) (g2 : Buf (Elt F) (arg2.view.loc (c : Thread nD τ)))
  (g3 : Buf (Elt F) (arg3.view.loc (c : Thread nD τ))) (g5 : Buf (Elt F) (arg5.view.loc (c : Thread nD τ)))
  (Y0 : Buf (Elt F) (yM.view.loc (c : Thread nD τ)))

/-- The body on the given staging memrefs, `x`, `y` and the buffers its own. -/
abbrev bodyG : Prog (TpuEff nD τ sig (Elt F) Λ₀ .tc) PUnit :=
  cc0__body xM (Memref.isWhole_whole _) arg1 harg1 arg2 harg2 arg3 harg3 yM (Memref.isWhole_whole _) arg5 harg5
    inM (Memref.isWhole_whole _) cc0_scoped1 outM (Memref.isWhole_whole _) cc0_scoped3

/-- What is handed over and back whatever happens between: `x`'s blocks, slots and semaphores, and `y`'s slots and
    semaphores. -/
abbrev restP : sProp 𝕄 :=
  iprop(bigSep Finset.univ (idleP c XA) ∗ (∃ f, yslotP c 0 f) ∗ ycellP c 0 ∗ (∃ f, yslotP c 1 f) ∗ ycellP c 1)

omit [FloatOps F] [Named F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The second result as the body leaves it: the arithmetic ahead of the loop, at the noise staged. -/
def lossOf (v : Vec F S8x4096 .f32) : FVec F S1x1 .f32 := k0_pay7 (k0_pay3 v) (k0_pay4 v) (k0_pay5 v) k0_pay6

/-- After the last trip every block of `x` is at rest, the first slot written from is free, and all of `y` but the last
    block, on its way out of the second slot, holds its values. -/
theorem loopInv_end (acc : Carry) :
    loopInv c XA arg1 arg2 g1 g2 Y0 (Scf.trips k0_t1_loop.lb k0_t1_loop.ub k0_t1_loop.st) acc
      ⊢ iprop(⌜acc = carryAt 8⌝ ∗ stP c arg1 g1 ∗ stP c arg2 g2 ∗ (∃ W, owes (c : Thread nD τ) 0 W) ∗ bigSep Finset.univ (idleP c XA)
        ∗ (yblkP c 7 (yOut c XA arg1 arg2 g1 g2) -∗ bigSep Finset.univ (fun b : Fin 8 => yblkP c b (yOut c XA arg1 arg2 g1 g2)))
        ∗ (∃ f, yslotP c 0 f) ∗ ycellP c 0 ∗ ∃ f, yflightP c 7 1 (yOut c XA arg1 arg2 g1 g2) f) := by
  rw [show Scf.trips k0_t1_loop.lb k0_t1_loop.ub k0_t1_loop.st = 8 from trips_eq]
  unfold loopInv
  iintro ⟨%e, H1, H2, HW, HR, HY, HO⟩
  isplitr; · ipureintro; exact e
  isplitl [H1]; · iexact H1
  isplitl [H2]; · iexact H2
  isplitl [HW]; · iexact HW
  isplitl [HR]
  · iapply (entails_of_eq (bigSep_congr fun b _ => rdSt_idle c XA (Or.inl b.isLt)))
    iexact HR
  isplitl [HY]
  · ihave HY := (bigSep_swap (wrSt c Y0 (yOut c XA arg1 arg2 g1 g2) 8) (fun b : Fin 8 => yblkP c b (yOut c XA arg1 arg2 g1 g2)) 7 (fun b hb =>
      wrSt_done c Y0 _ (fun e => hb (Fin.ext (by show b.val = 7; omega))) b.isLt)) $$ HY
    icases HY with ⟨-, HY⟩
    iexact HY
  iapply (entails_of_eq (outSt_succ c (yOut c XA arg1 arg2 g1 g2) 7 (s := 0) (by decide)))
  iexact HO

/-- The body, from all of `x` and `y` and the staged inputs: everything back, `y` and the second result at their values. -/
theorem bodyRun (W) (Q : PUnit → sProp 𝕄) :
    iprop(stP c arg1 g1 ∗ stP c arg2 g2 ∗ stP c arg3 g3 ∗ stP c arg5 g5 ∗ restP c XA ∗ bigSep Finset.univ (fun b : Fin 8 => yblkP c b Y0)
      ∗ owes (c : Thread nD τ) 0 W
      ∗ ((stP c arg1 g1 ∗ stP c arg2 g2 ∗ stP c arg3 g3 ∗ (∃ g, ⌜arg5.view.read (Elt F) g = lossOf (arg3.view.read (Elt F) g3)⌝ ∗ stP c arg5 g) ∗ restP c XA
        ∗ bigSep Finset.univ (fun b : Fin 8 => yblkP c b (yOut c XA arg1 arg2 g1 g2)) ∗ ∃ W', owes (c : Thread nD τ) 0 W') -∗ Q ⟨⟩))
      ⊢ wp frame (wpE (defs₀ (F := F)) 𝒱₀ (c : Thread nD τ) none) Set.univ (bodyG arg1 harg1 arg2 harg2 arg3 harg3 arg5 harg5) Q := by
  iintro ⟨H1, H2, H3, H5, ⟨HI, ⟨%fa, YS0⟩, YC0, ⟨%fb, YS1⟩, YC1⟩, HY, HW, HQ⟩
  ihave HI := (entails_of_eq (bigSep_fin8 (idleP c XA))) $$ HI
  icases HI with ⟨⟨B0, ⟨%f0, S0⟩, C0⟩, ⟨B1, ⟨%f1, S1⟩, C1⟩, ⟨B2, ⟨%f2, S2⟩, C2⟩, ⟨B3, ⟨%f3, S3⟩, C3⟩, ⟨B4, ⟨%f4, S4⟩, C4⟩, ⟨B5, ⟨%f5, S5⟩, C5⟩,
    ⟨B6, ⟨%f6, S6⟩, C6⟩, I7⟩
  sl_exec
  sl_for (loopInv c XA arg1 arg2 g1 g2 Y0) $$ [H1 H2 HW C0 C1 C2 C3 C4 C5 C6 I7 HY YS0 YC0 YS1 YC1]
  · intro k acc
    refine (show loopInv c XA arg1 arg2 g1 g2 Y0 k acc ⊢ iprop(⌜acc = carryAt k⌝ ∗ loopInv c XA arg1 arg2 g1 g2 Y0 k (carryAt k)) from by
      unfold loopInv
      iintro ⟨%e, H⟩
      isplitr; · ipureintro; exact e
      isplitr; · ipureintro; rfl
      iexact H).trans ?_
    iintro ⟨%e, H⟩
    subst e
    by_cases h0 : k.val = 0
    · iapply (step0 c XA arg1 harg1 arg2 harg2 arg3 harg3 arg5 harg5 _ _ _ _ _ g1 g2 Y0 k h0); iexact H
    · iapply (stepN c XA arg1 harg1 arg2 harg2 arg3 harg3 arg5 harg5 _ _ _ _ _ g1 g2 Y0 k h0); iexact H
  · unfold loopInv
    isplitr; · ipureintro; decide
    isplitl [H1]; · iexact H1
    isplitl [H2]; · iexact H2
    isplitl [HW]; · iexists _; iexact HW
    isplitl [C0 C1 C2 C3 C4 C5 C6 I7]
    · iapply (entails_of_eq (bigSep_fin8 (rdSt c XA 0)).symm)
      isplitl [C0]; · iapply (entails_of_eq (rdSt_flight c XA (by decide)).symm); iexists f0; iexact C0
      isplitl [C1]; · iapply (entails_of_eq (rdSt_flight c XA (by decide)).symm); iexists f1; iexact C1
      isplitl [C2]; · iapply (entails_of_eq (rdSt_flight c XA (by decide)).symm); iexists f2; iexact C2
      isplitl [C3]; · iapply (entails_of_eq (rdSt_flight c XA (by decide)).symm); iexists f3; iexact C3
      isplitl [C4]; · iapply (entails_of_eq (rdSt_flight c XA (by decide)).symm); iexists f4; iexact C4
      isplitl [C5]; · iapply (entails_of_eq (rdSt_flight c XA (by decide)).symm); iexists f5; iexact C5
      isplitl [C6]; · iapply (entails_of_eq (rdSt_flight c XA (by decide)).symm); iexists f6; iexact C6
      iapply (entails_of_eq (rdSt_idle c XA (by decide)).symm); iexact I7
    isplitl [HY]
    · iapply (entails_of_eq (bigSep_congr fun b _ => (wrSt_todo c Y0 (yOut c XA arg1 arg2 g1 g2) (Nat.zero_le _)).symm))
      iexact HY
    iapply (entails_of_eq (outSt_zero c (yOut c XA arg1 arg2 g1 g2)).symm)
    isplitl [YS0]; · iexists fa; iexact YS0
    isplitl [YC0]; · iexact YC0
    isplitl [YS1]; · iexists fb; iexact YS1
    iexact YC1
  iintro %acc HI
  ihave HI := (loopInv_end c XA arg1 arg2 g1 g2 Y0 acc) $$ HI
  icases HI with ⟨%e, H1, H2, ⟨%W', HW⟩, HI, HY, ⟨%fa', YS0⟩, YC0, ⟨%fb', HF⟩⟩
  subst e
  have k4 := chk4
  have k5 := chk5
  sl_exec
  sl_step
  unfold bodyRun.sl.H5_1
  iapply HQ
  isplitl [H1]; · iexact H1
  isplitl [H2]; · iexact H2
  isplitl [H3]; · iexact H3
  isplitl [H5]
  · iexists (arg5.view.writes (Elt F) arg5.view.junk [⟨Rect.unit (s := S1x1) ![0, 0] S1x1.size inb_S1x1_S1x1_0_0, bodyRun.sl.v57 c arg3 g3⟩])
    isplitr
    · ipureintro
      refine (View.read_writes_full _ _ _ _ _).trans ?_
      rw [← View.readAt_full arg3.view g3 (off := ![0, 0]) inb_S8x4096_S8x4096_0_0]
      rfl
    iexact H5
  isplitl [HI YS0 YC0 HF_src HF]
  · isplitl [HI]; · iexact HI
    isplitl [YS0]; · iexists _; iexact YS0
    isplitl [YC0]; · iexact YC0
    isplitl [HF_src]; · iexists _; iexact HF_src
    iexact HF
  isplitl [HY HF_dst]
  · iapply HY; iexact HF_dst
  iexists _; iexact HW
end Body

end Cert.Proof.Moe

end
-- ==== Proof.Launch.lean ====
module

public import proofs.«01_k».proof.Proof.Body
public import proofs.«01_k».proof.Proof.Gen.KernelIdeal.Frame
public import Idealize.ShloMosaic.Lib.Pipeline.FrameSuffixV

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UU nD τ) ℕ

/-! ## Sets of elements: the blocks of rows, the slots -/

abbrev Rows (b : Fin 8) : Finset S4096x1024.Idx := (Rect.unit (s := S4096x1024) (rowOff b) S512x1024.size (rowOff_inb b)).set
abbrev In8 (s : Fin 8) : Finset S8x512x1024.Idx := (Rect.unit (s := S8x512x1024) (slotOff s) S1x512x1024.size (slotOff8_inb s)).set
abbrev Out2 (s : Fin 2) : Finset S2x512x1024.Idx := (Rect.unit (s := S2x512x1024) (slotOff s) S1x512x1024.size (slotOff2_inb s)).set

theorem xblk_set (b : Fin 8) : (xblk b).view.set = Rows b := View.set_slice_whole _ _
theorem yblk_set (b : Fin 8) : (yblk b).view.set = Rows b := View.set_slice_whole _ _
theorem xslot_set (s : Fin 8) : (xslot s).view.set = In8 s := (View.set_reshape _ _).trans (View.set_slice_whole _ _)
theorem yslot_set (s : Fin 2) : (yslot s).view.set = Out2 s := (View.set_reshape _ _).trans (View.set_slice_whole _ _)

theorem mem_Rows (b : Fin 8) (y : S4096x1024.Idx) : y ∈ Rows b ↔ (y 0).val / 512 = b.val := by
  rw [Rect.mem_set_unit]
  have h1 : (y 1).val < 1024 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 1024; omega
theorem mem_In8 (s : Fin 8) (y : S8x512x1024.Idx) : y ∈ In8 s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem mem_Out2 (s : Fin 2) (y : S2x512x1024.Idx) : y ∈ Out2 s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega

/-- A family of sets told apart by a function of the element is pairwise disjoint; -/
theorem disjoint_of_mem {I X : Type} [DecidableEq X] {n : ℕ} (S : Fin n → Finset X) (f : X → ℕ) (h : ∀ b y, y ∈ S b ↔ f y = b.val) :
    ∀ b b' : Fin n, b ≠ b' → Disjoint (S b) (S b') := by
  intro b b' hne; rw [Finset.disjoint_left]; intro y hy hy'; rw [h] at hy hy'; exact hne (Fin.ext (hy.symm.trans hy'))
/-- and covers once the function stays below its size. -/
theorem cover_of_mem {X : Type} [DecidableEq X] [Fintype X] {n : ℕ} (S : Fin n → Finset X) (f : X → ℕ) (h : ∀ b y, y ∈ S b ↔ f y = b.val) (hf : ∀ y, f y < n) :
    (Finset.univ : Finset (Fin n)).biUnion S = Finset.univ := by
  ext y; simp only [Finset.mem_biUnion, Finset.mem_univ, true_and, iff_true]; exact ⟨⟨f y, hf y⟩, (h _ _).2 rfl⟩

theorem Rows_disjoint : ∀ b b' : Fin 8, b ≠ b' → Disjoint (Rows b) (Rows b') := disjoint_of_mem (I := Unit) Rows (fun y => (y 0).val / 512) mem_Rows
theorem Rows_cover : (Finset.univ : Finset (Fin 8)).biUnion Rows = Finset.univ := cover_of_mem Rows (fun y => (y 0).val / 512) mem_Rows fun y => by
  have h : (y 0).val < 4096 := (y 0).isLt; omega
theorem In8_disjoint : ∀ b b' : Fin 8, b ≠ b' → Disjoint (In8 b) (In8 b') := disjoint_of_mem (I := Unit) In8 (fun y => (y 0).val) mem_In8
theorem In8_cover : (Finset.univ : Finset (Fin 8)).biUnion In8 = Finset.univ := cover_of_mem In8 (fun y => (y 0).val) mem_In8 fun y => (y 0).isLt
theorem Out2_disjoint : ∀ b b' : Fin 2, b ≠ b' → Disjoint (Out2 b) (Out2 b') := disjoint_of_mem (I := Unit) Out2 (fun y => (y 0).val) mem_Out2
theorem Out2_cover : (Finset.univ : Finset (Fin 2)).biUnion Out2 = Finset.univ := cover_of_mem Out2 (fun y => (y 0).val) mem_Out2 fun y => (y 0).isLt

/-! ## The buffers whole and in pieces -/

section Pieces
variable (c : Dev nD)

omit [FloatOps F] [Named F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] [Named F] in
/-- `x` whole is its blocks; -/
theorem x_eq (X : Buf (Elt F) ((c : Thread nD τ).loc main_arg0)) :
    (((c : Thread nD τ).loc main_arg0) ↦{fullShare} X : sProp 𝕄) = bigSep Finset.univ (xblkP c X) := by
  rw [Ring.pointsTo_blocks (ℓ := (c : Thread nD τ).loc main_arg0) Rows Rows_disjoint Rows_cover]
  exact bigSep_congr fun b _ => by rw [← xblk_set]; rfl
omit [FloatOps F] [Named F] in
/-- so is `y`. -/
theorem y_eq (Y : Buf (Elt F) ((c : Thread nD τ).loc main_v2_0)) :
    (((c : Thread nD τ).loc main_v2_0) ↦{fullShare} Y : sProp 𝕄) = bigSep Finset.univ (fun b : Fin 8 => yblkP c b Y) := by
  rw [Ring.pointsTo_blocks (ℓ := (c : Thread nD τ).loc main_v2_0) Rows Rows_disjoint Rows_cover]
  exact bigSep_congr fun b _ => by rw [← yblk_set]; rfl

omit [FloatOps F] [Named F] in
theorem xslotP_eq (s : Fin 8) (f) : xslotP c s f = (((c : Thread nD τ).loc cc0_scoped0) ↦[In8 s]{fullShare} f : sProp 𝕄) :=
  congrArg (fun S => (_ ↦[S]{fullShare} f : sProp 𝕄)) (xslot_set s)
omit [FloatOps F] [Named F] in
theorem yslotP_eq (s : Fin 2) (f) : yslotP c s f = (((c : Thread nD τ).loc cc0_scoped2) ↦[Out2 s]{fullShare} f : sProp 𝕄) :=
  congrArg (fun S => (_ ↦[S]{fullShare} f : sProp 𝕄)) (yslot_set s)

omit [FloatOps F] [Named F] in
/-- The buffer read into, whole, is its slots, and back. -/
theorem in_split : iprop(∃ f : Buf (Elt F) ((c : Thread nD τ).loc cc0_scoped0), ((c : Thread nD τ).loc cc0_scoped0) ↦{fullShare} f)
    ⊢ (bigSep Finset.univ (fun s : Fin 8 => iprop(∃ f, xslotP c s f)) : sProp 𝕄) := by
  iintro ⟨%f, H⟩
  ihave H := (entails_of_eq (Ring.pointsTo_blocks (Ix := Unit) (Name := ℕ) (U := UU nD τ) (Lvl := ℕ) (q := fullShare) (ℓ := (c : Thread nD τ).loc cc0_scoped0) In8 In8_disjoint In8_cover f)) $$ H
  iapply (show (bigSep Finset.univ (fun s : Fin 8 => (((c : Thread nD τ).loc cc0_scoped0) ↦[In8 s]{fullShare} f : sProp 𝕄)))
      ⊢ bigSep Finset.univ (fun s : Fin 8 => iprop(∃ f, xslotP c s f)) from bigSep_mono fun s _ => show (_ : sProp 𝕄) ⊢ _ by
    iintro H
    iexists f; iapply (entails_of_eq (xslotP_eq c s f).symm); iexact H)
  iexact H
theorem in_join : (bigSep Finset.univ (fun s : Fin 8 => iprop(∃ f, xslotP c s f)) : sProp 𝕄)
    ⊢ iprop(∃ f : Buf (Elt F) ((c : Thread nD τ).loc cc0_scoped0), ((c : Thread nD τ).loc cc0_scoped0) ↦{fullShare} f) := by
  refine BIBase.Entails.trans ?_ (Ring.pointsTo_blocks_join_exists (ℓ := (c : Thread nD τ).loc cc0_scoped0) In8 In8_disjoint In8_cover (fun _ => Scalar.ofBits .f32 0#32))
  refine bigSep_mono fun s _ => show (_ : sProp 𝕄) ⊢ _ from ?_
  iintro ⟨%f, H⟩
  iexists f; iapply (entails_of_eq (xslotP_eq c s f)); iexact H
omit [FloatOps F] [Named F] in
/-- The buffer written from likewise. -/
theorem out_split : iprop(∃ f : Buf (Elt F) ((c : Thread nD τ).loc cc0_scoped2), ((c : Thread nD τ).loc cc0_scoped2) ↦{fullShare} f)
    ⊢ (iprop((∃ f, yslotP c 0 f) ∗ ∃ f, yslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) Out2 Out2_disjoint Out2_cover f).trans (bigSep_fin2 _))) $$ H
  icases H2 with ⟨H0, H1⟩
  isplitl [H0]
  · iexists f; iapply (entails_of_eq (yslotP_eq c 0 f).symm); iexact H0
  · iexists f; iapply (entails_of_eq (yslotP_eq c 1 f).symm); iexact H1
omit [FloatOps F] [Named F] in
theorem out_join : (iprop((∃ f, yslotP c 0 f) ∗ ∃ f, yslotP c 1 f) : sProp 𝕄)
    ⊢ iprop(∃ f : Buf (Elt F) ((c : Thread nD τ).loc cc0_scoped2), ((c : Thread nD τ).loc cc0_scoped2) ↦{fullShare} f) := by
  iintro ⟨⟨%f0, H0⟩, ⟨%f1, H1⟩⟩
  iapply (Ring.pointsTo_blocks_join_exists (ℓ := (c : Thread nD τ).loc cc0_scoped2) Out2 Out2_disjoint Out2_cover f0)
  irw [bigSep_fin2]
  isplitl [H0]
  · iexists f0; iapply (entails_of_eq (yslotP_eq c 0 f0)); iexact H0
  · iexists f1; iapply (entails_of_eq (yslotP_eq c 1 f1)); iexact H1

/-! ## The kernel's own semaphores -/

/-- The eight semaphores of the reads, then the two of the writes. -/
abbrev osem : Fin 10 → SemLoc sig := ![.dma (xsem 0).sem, .dma (xsem 1).sem, .dma (xsem 2).sem, .dma (xsem 3).sem, .dma (xsem 4).sem,
  .dma (xsem 5).sem, .dma (xsem 6).sem, .dma (xsem 7).sem, .dma (ysem 0).sem, .dma (ysem 1).sem]
theorem ownSemFacts : Pipeline.OwnSemFacts spec0 osem := by decide

omit [FloatOps F] [Named F] in
theorem ownSems0_eq : (Pipeline.ownSems0 (Ix := Unit) (Name := ℕ) (U := UU nD τ) (Lvl := ℕ) (Val := Elt F) (τ := τ) osem c : sProp 𝕄)
    = iprop(xcellP c 0 ∗ xcellP c 1 ∗ xcellP c 2 ∗ xcellP c 3 ∗ xcellP c 4 ∗ xcellP c 5 ∗ xcellP c 6 ∗ xcellP c 7 ∗ ycellP c 0 ∗ ycellP c 1) := by
  unfold Pipeline.ownSems0
  exact bigSep_univ_eq_bigSepL [(0 : Fin 10), 1, 2, 3, 4, 5, 6, 7, 8, 9] (by decide) (by decide) _

omit [FloatOps F] [Named F] in
theorem sems_split : (Pipeline.ownSems0 (Ix := Unit) (Name := ℕ) (U := UU nD τ) (Lvl := ℕ) (Val := Elt F) (τ := τ) osem c : sProp 𝕄)
    ⊢ iprop(bigSep Finset.univ (xcellP (F := F) c) ∗ ycellP c 0 ∗ ycellP c 1) := by
  rw [ownSems0_eq, bigSep_fin8]
  iintro ⟨H0, H1, H2, H3, H4, H5, H6, H7, H8, H9⟩
  iframe H0 H1 H2 H3 H4 H5 H6 H7 H8 H9
omit [FloatOps F] [Named F] in
theorem sems_join : iprop(bigSep Finset.univ (xcellP (F := F) c) ∗ ycellP c 0 ∗ ycellP c 1)
    ⊢ (Pipeline.ownSems0 (Ix := Unit) (Name := ℕ) (U := UU nD τ) (Lvl := ℕ) (Val := Elt F) (τ := τ) osem c : sProp 𝕄) := by
  rw [ownSems0_eq, bigSep_fin8]
  iintro ⟨⟨H0, H1, H2, H3, H4, H5, H6, H7⟩, H8, H9⟩
  iframe H0 H1 H2 H3 H4 H5 H6 H7 H8 H9

omit [FloatOps F] [Named F] in
theorem idle_eq (X : Buf (Elt F) (xM.view.loc (c : Thread nD τ))) : bigSep Finset.univ (idleP c X)
    = (iprop(bigSep Finset.univ (xblkP c X) ∗ bigSep Finset.univ (fun s : Fin 8 => iprop(∃ f, xslotP c s f)) ∗ bigSep Finset.univ (xcellP (F := F) c)) : sProp 𝕄) := by
  rw [bigSep_sep', bigSep_sep']
end Pieces

/-! ## The pipeline's proof data -/

variable (m : (ℓ : Loc nD τ sig) → Buf (Elt F) ℓ) (ρ : Dev nD → PrngReg)

/-- `y` as the kernel leaves it, the second result likewise. -/
def yG (c : Dev nD) : Buf (Elt F) ((c : Thread nD τ).loc main_v2_0) := yFinal (V m c main_arg0) (iblk m c 0 t0_0) (iblk m c 1 t0_0)
def lossG (c : Dev nD) : Vec F S1x1 .f32 := lossOf (iblk m c 2 t0_0)

/-- What the region holds besides its windows: `y` as found before the one point, at its values after. -/
def Φ (c : Dev nD) (n : ℕ) : sProp 𝕄 :=
  iprop(restP c (V m c main_arg0) ∗ bigSep Finset.univ (fun b : Fin 8 => yblkP c b (if n = 0 then V m c main_v2_0 else yG m c)))

abbrev s0 (t : Fin cfg0.N) : Memref sig .tc .vmem S1024x1024 .f32 := win0_0.stage (cfg0.slots t 0)
abbrev s1 (t : Fin cfg0.N) : Memref sig .tc .vmem S1x1024 .f32 := win0_1.stage (cfg0.slots t 1)
abbrev s2 (t : Fin cfg0.N) : Memref sig .tc .vmem S8x4096 .f32 := win0_2.stage (cfg0.slots t 2)
abbrev s3 (t : Fin cfg0.N) : Memref sig .tc .vmem S1x1 .f32 := win0_3.stage (cfg0.slots t 3)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lossOf (iblk m c 2 t)
  Φ n := Φ m c n.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = lossOf (iblk m c 2 t) := by dsimp only [dats]

/-! ## The body obligation -/

/-- The body table's entry is the kernel on the point's staging memrefs: the table's function, then its application. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (s0 t) (hstage0_0 0) (s1 t) (hstage0_1 0) (s2 t) (hstage0_2 0) (s3 t) (hstage0_3 0) :=
  (congrFun defs_tc _).trans rfl

/-- The body's run at the blocks staged. -/
theorem yOut_rep (c : Dev nD) (t : Fin cfg0.N) :
    yOut c (V m c main_arg0) (s0 t) (s1 t) ((s0 t).view.rep (iblk m c 0 t)) ((s1 t).view.rep (iblk m c 1 t)) = yG m c := by
  obtain rfl := fin_N0 t
  unfold yOut yG
  rw [View.read_rep, View.read_rep]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  obtain rfl := fin_N0 t
  rw [show (dats m 0 c).Φ t0_0.castSucc = iprop(restP c (V m c main_arg0) ∗ bigSep Finset.univ (fun b : Fin 8 => yblkP c b (V m c main_v2_0))) from rfl,
    show (dats m 0 c).Φ t0_0.succ = iprop(restP c (V m c main_arg0) ∗ bigSep Finset.univ (fun b : Fin 8 => yblkP c b (yG m c))) from rfl]
  unfold Dat.owesAt Pipeline.owesWithin
  rw [show (dats m 0 c).owed t0_0.castSucc = 0 from rfl, show (dats m 0 c).owed t0_0.succ = 0 from rfl]
  unfold owns
  iintro ⟨⟨HR, HY⟩, ⟨%W, -, HW⟩, ⟨%d0, %g0, %h0, H0⟩, ⟨%d1, %g1, %h1, H1⟩, ⟨%d2, %g2, %h2, H2⟩, ⟨%d3, %g3, -, H3⟩⟩
  ihave H0 := (pointsTo_rep_entails (c : Thread nD τ) (s0 t0_0) g0 fullShare) $$ H0
  ihave H1 := (pointsTo_rep_entails (c : Thread nD τ) (s1 t0_0) g1 fullShare) $$ H1
  ihave H2 := (pointsTo_rep_entails (c : Thread nD τ) (s2 t0_0) g2 fullShare) $$ H2
  rw [h0, h1, h2]
  sl_rw [prog_eq t0_0]
  iapply (bodyRun c (V m c main_arg0) (s0 t0_0) (hstage0_0 0) (s1 t0_0) (hstage0_1 0) (s2 t0_0) (hstage0_2 0) (s3 t0_0) (hstage0_3 0)
    ((s0 t0_0).view.rep (iblk m c 0 t0_0)) ((s1 t0_0).view.rep (iblk m c 1 t0_0)) ((s2 t0_0).view.rep (iblk m c 2 t0_0)) g3 (V m c main_v2_0) W)
  isplitl [H0]; · iexact H0
  isplitl [H1]; · iexact H1
  isplitl [H2]; · iexact H2
  isplitl [H3]; · iexact H3
  isplitl [HR]; · iexact HR
  isplitl [HY]; · iexact HY
  isplitl [HW]; · iexact HW
  rw [yOut_rep]
  iintro ⟨H0, H1, H2, ⟨%g, %hg, H3⟩, HR, HY, ⟨%W', HW⟩⟩
  isplitl [HR HY]
  · isplitl [HR]; · iexact HR
    iexact HY
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  iexists g; isplitr; · ipureintro; exact hg.trans (congrArg lossOf (View.read_rep _ _))
  iexact H3

/-! ## The run -/

/-- The contents after the region of what it writes outside its windows. -/
def G (c : Dev nD) : (b : Ref sig .tc) → Buf (Elt F) ((c : Thread nD τ).loc b) := Function.update (V m c) main_v2_0 (yG m c)

/-- @main around its region, as the library's run takes it. -/
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A core's buffers after the region: the windows' arrays as written back, `y` at its values. -/
abbrev Wend (c : Dev nD) : Valuation τ sig (Elt F) :=
  Pipeline.withArrays spec0 c (Pipeline.withR (V0 m c) {main_v2_0} c (G m c)) fun w => (dats m 0 c).arrAt w cfg0.N

/-- Every fair execution of @main ends, every window's array as written back, every other buffer as the last host line
    leaves it, every semaphore at zero. -/
theorem run_main : θ_run defs (onTc (τ := τ) (main (F := F))) (s₀ m ρ) (fun r =>
    (∀ c : Dev nD, (∀ w, r.2.mem ((spec0 w).arr.view.loc (c : Thread nD τ)) = (dats m 0 c).arrAt w cfg0.N)
      ∧ ∀ b ∈ Pipeline.restRefs sig spec0, r.2.mem ((c : Thread nD τ).loc b) = StableHlo.after (List.flatten [hostOps1]) (Wend m c) (Proc.devRef .tc b))
    ∧ r.2.sem = fun _ => 0) :=
  Pipeline.θ_run_frame_dmaR_aroundV cfgs (dats m) 0 launch0 osem defs₀ 𝒱₀ ownSemFacts {main_arg0} {main_v2_0} (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G m) (hmain := hmainD m) (hA := fun _ _ => rfl)
    (Q' := _) (hQ' := fun _ h => h)
    (hin := fun c => by
      unfold Pipeline.ΦDRV
      rw [show (dats m 0 c).Φ 0 = iprop(restP c (V m c main_arg0) ∗ bigSep Finset.univ (fun b : Fin 8 => yblkP c b (V m c main_v2_0))) from rfl]
      rw [scopedRest0_eq, bigSep_singleton, bigSep_singleton]
      iintro ⟨⟨HI, HO⟩, HS, HX, HY⟩
      ihave HI := (in_split c) $$ HI
      ihave HO := (out_split c) $$ HO
      ihave HS := (sems_split c) $$ HS
      ihave HX := (entails_of_eq (x_eq c (V m c main_arg0))) $$ HX
      ihave HY := (entails_of_eq (y_eq c (V m c main_v2_0))) $$ HY
      icases HO with ⟨HO0, HO1⟩
      icases HS with ⟨HS, HS0, HS1⟩
      isplitr [HY]
      · isplitl [HI HS HX]
        · iapply (entails_of_eq (idle_eq c (V m c main_arg0)).symm)
          isplitl [HX]; · iexact HX
          isplitl [HI]; · iexact HI
          iexact HS
        isplitl [HO0]; · iexact HO0
        isplitl [HS0]; · iexact HS0
        isplitl [HO1]; · iexact HO1
        iexact HS1
      iexact HY)
    (hout := fun c => by
      unfold Pipeline.ΦDRV
      rw [show (dats m 0 c).Φ (Fin.last cfg0.N) = iprop(restP c (V m c main_arg0) ∗ bigSep Finset.univ (fun b : Fin 8 => yblkP c b (yG m c))) from rfl]
      rw [scopedRest0_eq, bigSep_singleton, bigSep_singleton, show G m c main_v2_0 = yG m c from Function.update_self _ _ _]
      iintro ⟨⟨HI, HO0, HS0, HO1, HS1⟩, HY⟩
      ihave HI := (entails_of_eq (idle_eq c (V m c main_arg0))) $$ HI
      icases HI with ⟨HX, HI, HS⟩
      isplitl [HI HO0 HO1]
      · isplitl [HI]; · iapply (in_join c); iexact HI
        iapply (out_join c)
        isplitl [HO0]; · iexact HO0
        iexact HO1
      isplitl [HS HS0 HS1]
      · iapply (sems_join c)
        isplitl [HS]; · iexact HS
        isplitl [HS0]; · iexact HS0
        iexact HS1
      isplitl [HX]
      · iapply (entails_of_eq (x_eq c (V m c main_arg0)).symm); iexact HX
      iapply (entails_of_eq (y_eq c (yG m c)).symm); iexact HY)

end Cert.Proof.Moe

end
-- ==== Proof.Frames.lean ====
module

public import proofs.«01_k».proof.Proof.Launch
public import proofs.«01_k».proof.Defs
public import proofs.«01_k».proof.Proof.Gen.Kernel

@[expose] public section

noncomputable section

namespace Cert.Proof.Moe

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-! ## What the run leaves, read at the arguments and the results -/

/-- A buffer the last host line does not write is as the region leaves it. -/
theorem tail_keeps (c : Dev nD) (b : Ref sig .tc) (h : main_v3 ≠ b) (V' : Valuation τ sig (Elt F)) :
    StableHlo.after (List.flatten [hostOps1]) V' (Proc.devRef .tc b) = V' (Proc.devRef .tc b) :=
  StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h.symm))

/-- A buffer that is no window's array, not `y` and not the last line's result ends as the region found it. -/
theorem end_keeps (c : Dev nD) (b : Ref sig .tc) (h3 : main_v3 ≠ b) (hw : ∀ w, Pipeline.arrRef spec0 w ≠ b) (hy : b ≠ main_v2_0) :
    StableHlo.after (List.flatten [hostOps1]) (Wend m c) (Proc.devRef .tc b) = V m c b :=
  (tail_keeps c b h3 _).trans ((Pipeline.withArrays_of_ne _ c _ _ b hw).trans
    (Pipeline.withR_of_not_mem _ _ _ _ b (by rw [Finset.mem_singleton]; exact hy)))

theorem end_y (c : Dev nD) : StableHlo.after (List.flatten [hostOps1]) (Wend m c) (Proc.devRef .tc main_v2_0) = yG m c :=
  (tail_keeps c main_v2_0 (by decide) _).trans ((Pipeline.withArrays_of_ne _ c _ _ main_v2_0 (by decide)).trans
    ((Pipeline.withR_of_mem _ _ _ _ main_v2_0 (Finset.mem_singleton_self _)).trans (Function.update_self _ _ _)))

/-- What both frames say of the six arguments. -/
def Kept (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)

/-- The last line's result, a reshape of the window's array. -/
abbrev lossEnd (c : Dev nD) : Buf (Elt F) ((c : Thread nD τ).loc main_v3) :=
  StableHlo.after (List.flatten [hostOps1]) (Wend m c) (Proc.devRef .tc main_v3)

/-- The run with the results named and the arguments unchanged. -/
theorem run_named : θ_run defs (onTc (τ := τ) (main (F := F))) (s₀ m ρ) (fun r =>
    ((∀ c : Dev nD, r.2.mem ((c : Thread nD τ).loc main_v2_0) = yG m c ∧ r.2.mem ((c : Thread nD τ).loc main_v3) = lossEnd m c) ∧ Kept m r)
    ∧ r.2.sem = fun _ => 0) :=
  (θ_run defs _ _).mono (fun r h => ⟨⟨fun c => ⟨((h.1 c).2 main_v2_0 (Pipeline.mem_restRefs_of main_v2_0 (by decide) (by decide))).trans (end_y m c),
        (h.1 c).2 main_v3 (Pipeline.mem_restRefs_of main_v3 (by decide) (by decide))⟩,
      fun c => ⟨((h.1 c).2 main_arg0 (Pipeline.mem_restRefs_of main_arg0 (by decide) (by decide))).trans ((end_keeps m c main_arg0 (by decide) (by decide) (by decide)).trans (V_main_arg0 m c)),
        ((h.1 c).2 main_arg1 (Pipeline.mem_restRefs_of main_arg1 (by decide) (by decide))).trans ((end_keeps m c main_arg1 (by decide) (by decide) (by decide)).trans (V_main_arg1 m c)),
        ((h.1 c).2 main_arg2 (Pipeline.mem_restRefs_of main_arg2 (by decide) (by decide))).trans ((end_keeps m c main_arg2 (by decide) (by decide) (by decide)).trans (V_main_arg2 m c)),
        ((h.1 c).1 0).trans (((dats m 0 c).arrAt_in 0 rfl _).trans (V_main_arg3 m c)),
        ((h.1 c).2 main_arg4 (Pipeline.mem_restRefs_of main_arg4 (by decide) (by decide))).trans ((end_keeps m c main_arg4 (by decide) (by decide) (by decide)).trans (V_main_arg4 m c)),
        ((h.1 c).2 main_arg5 (Pipeline.mem_restRefs_of main_arg5 (by decide) (by decide))).trans ((end_keeps m c main_arg5 (by decide) (by decide) (by decide)).trans (V_main_arg5 m c))⟩⟩, h.2⟩)
    (run_main m ρ)

/-! ## The frames -/

theorem frame_kernelIdeal : Cert.quiescent_KernelIdeal := fun m ρ _ =>
  (θ_run defs _ _).mono (fun _ h => ⟨h.1.2, h.2⟩) (run_named (F := Ideal) m ρ)

/-- At machine floats a named constant is its word: the kernel before naming is the same program. -/
@[reducible] def namedBits : Named Bits := ⟨fun _ _ {φ} bits => Scalar.ofBits φ bits⟩

section
attribute [local instance] namedBits Cert.Kernel.Gen.facts

theorem body_same : Cert.Kernel.cc0__body (F := Bits) = Cert.KernelIdeal.cc0__body (F := Bits) := rfl
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun
      (congrFun (congrFun (congrFun (congrFun body_same _) _) _) _) _) _) _) _) _) _) _) _) _) _) _) _) _) _
theorem defs_same : Cert.Kernel.defs (F := Bits) = Cert.KernelIdeal.defs (F := Bits) := by
  unfold Cert.Kernel.defs Cert.KernelIdeal.defs
  exact congrArg (Pipeline.defs _) defs₀_same
theorem main_same : Cert.Kernel.main (F := Bits) = Cert.KernelIdeal.main (F := Bits) := by
  funext c
  unfold Cert.Kernel.main Cert.KernelIdeal.main
  rfl

theorem frame_kernel : Cert.quiescent_Kernel (hKernel := Cert.Kernel.Gen.facts) := fun m ρ _ => by
  have key : ∀ D M, D = Cert.KernelIdeal.defs (F := Bits) → M = Cert.KernelIdeal.main (F := Bits) →
      θ_run D (onTc (τ := τ) M) (s₀ m ρ) (fun r => Kept m r ∧ r.2.sem = fun _ => 0) := by
    rintro _ _ rfl rfl
    exact (θ_run (Cert.KernelIdeal.defs (F := Bits)) _ _).mono (fun _ h => ⟨h.1.2, h.2⟩) (run_named (F := Bits) m ρ)
  exact key _ _ defs_same main_same
end

end Cert.Proof.Moe

end
-- ==== Proof.Exact.lean ====
/- The reference's frame and the values of the two named constants. -/
module

public import proofs.«01_k».proof.Defs
public import proofs.«01_k».proof.Proof.Gen.ReferenceIdeal.Run

@[expose] public section

noncomputable section

namespace Cert.Proof.Moe

open Idealize.ShloMosaic Idealize.SL.Sem

attribute [local instance] Cert.ReferenceIdeal.Gen.facts

/-- The reference runs and leaves its arguments; it has no semaphore. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The two named constants are what the table gives. -/
theorem preserves : Cert.preserves_Kernel_KernelIdeal :=
  ⟨IdealRules.named_const.statement Cert.KernelIdeal.κ "ln2" .f32 0x3F317218#32 ((Real.log 2 : ℝ) : EReal) rfl,
    IdealRules.named_const.statement Cert.KernelIdeal.κ "gate_scale" .f32 0x3F7FFFEF#32 ((8796093022208 / 8796101818301 : ℝ) : EReal) rfl⟩

end Cert.Proof.Moe

end
-- ==== Proof.Softmax.lean ====
/- The softmax of eight finite logits over the extended reals, and the sums its values give: what both programs' results
   are read by. -/
module

public import Idealize.ShloMosaic.PureOps.Ideal
public import Idealize.ShloMosaic.Lib.IdealHost

@[expose] public section

noncomputable section

namespace Cert.Proof.Moe

open Idealize.ShloMosaic

/-! ## Constants -/

/-- The reference's 1e-6, as the real its word is. -/
def tiny : ℝ := 8796093 / 8796093022208
/-- What a gate is scaled by: 1 / (1 + 1e-6). -/
def scale : ℝ := 8796093022208 / 8796101818301

theorem word_bot : Ideal.ofBits .f32 4286578688#32 = (⊥ : EReal) := by
  simp [Ideal.ofBits, Ideal.ieee]
theorem word_top : Ideal.ofBits .f32 2139095040#32 = (⊤ : EReal) := by
  simp [Ideal.ofBits, Ideal.ieee]
theorem word_tiny : Ideal.ofBits .f32 897988541#32 = (tiny : EReal) := by
  simp [Ideal.ofBits, Ideal.ieee, -EReal.coe_mul, tiny]; norm_num
theorem word_eight : Ideal.ofBits .f32 1090519040#32 = ((8 : ℝ) : EReal) := by
  simp [Ideal.ofBits, Ideal.ieee, -EReal.coe_mul]; norm_num
theorem word_seven : Ideal.ofBits .f32 1088421888#32 = ((7 : ℝ) : EReal) := by
  simp [Ideal.ofBits, Ideal.ieee, -EReal.coe_mul]; norm_num
theorem word_real : ∃ r : ℝ, Ideal.ofBits .f32 1008981770#32 = (r : EReal) := by
  refine ⟨10737418 / 1073741824, ?_⟩
  simp [Ideal.ofBits, Ideal.ieee, -EReal.coe_mul]; norm_num

theorem scale_nonneg : 0 ≤ scale := by unfold scale; norm_num
theorem one_add_tiny : 1 + tiny ≠ 0 := by unfold tiny; norm_num
theorem inv_one_add_tiny : (1 + tiny)⁻¹ = scale := by unfold tiny scale; norm_num

/-! ## Division and sums of finite values -/

theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

theorem sum_real {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A fixed factor comes out of a sum of finite nonnegative weights, whatever the factor is. -/
theorem mul_sum_real {ι : Type} (s : Finset ι) (f : ι → ℝ) (hf : ∀ x, 0 ≤ f x) (X : EReal) :
    ∑ x ∈ s, X * (f x : EReal) = X * ((∑ x ∈ s, f x : ℝ) : EReal) := by
  classical
  induction s using Finset.induction_on with
  | empty => simp
  | insert a s ha ih =>
    rw [Finset.sum_insert ha, Finset.sum_insert ha, ih, EReal.coe_add,
      EReal.left_distrib_of_nonneg (by exact_mod_cast hf a) (by exact_mod_cast Finset.sum_nonneg fun x _ => hf x)]

/-! ## The softmax -/

/-- The softmax of a row of logits at `e`, shifted by the row's maximum as both programs compute it. -/
def softmax8 (l : Fin 8 → EReal) (e : Fin 8) : EReal :=
  Ideal.div (Ideal.exp (l e - Finset.univ.fold max ⊥ l)) (∑ x, Ideal.exp (l x - Finset.univ.fold max ⊥ l))

/-- At finite logits the softmax is positive, finite, and sums to one. -/
theorem softmax8_real (a : Fin 8 → ℝ) : ∃ p : Fin 8 → ℝ, (∀ e, 0 < p e) ∧ ∑ e, p e = 1 ∧ ∀ e, softmax8 (fun x => (a x : EReal)) e = (p e : EReal) := by
  obtain ⟨i, -, hi⟩ := Finset.exists_mem_eq_sup (Finset.univ : Finset (Fin 8)) Finset.univ_nonempty (fun x => (a x : EReal))
  have hm : Finset.univ.fold max ⊥ (fun x => (a x : EReal)) = (a i : EReal) := hi
  have hx : ∀ x, Ideal.exp ((a x : EReal) - (a i : EReal)) = ((Real.exp (a x - a i) : ℝ) : EReal) := fun x => by
    rw [← EReal.coe_sub]; rfl
  have hpos : 0 < ∑ x, Real.exp (a x - a i) := Finset.sum_pos (fun x _ => Real.exp_pos _) Finset.univ_nonempty
  refine ⟨fun e => Real.exp (a e - a i) * (∑ x, Real.exp (a x - a i))⁻¹, fun e => mul_pos (Real.exp_pos _) (inv_pos.mpr hpos), ?_, fun e => ?_⟩
  · rw [← Finset.sum_mul, mul_inv_cancel₀ hpos.ne']
  · unfold softmax8
    rw [hm]
    simp only [hx]
    rw [sum_real, div_real _ _ hpos.ne']

/-- A gate: its value over the row's sum with 1e-6 added. -/
theorem gate_real (p : ℝ) : Ideal.div (p : EReal) (((1 : ℝ) : EReal) + (tiny : EReal)) = ((p * scale : ℝ) : EReal) := by
  rw [← EReal.coe_add, div_real _ _ one_add_tiny, inv_one_add_tiny]

/-- An output weighted by the gates of its row is the output scaled. -/
theorem sum_gates (p : Fin 8 → ℝ) (hp : ∀ e, 0 < p e) (h1 : ∑ e, p e = 1) (X : EReal) :
    ∑ e, X * ((p e * scale : ℝ) : EReal) = X * (scale : EReal) := by
  rw [mul_sum_real _ _ (fun e => mul_nonneg (hp e).le scale_nonneg), ← Finset.sum_mul, h1, one_mul]

/-- The logits' factor: softplus of zero is log 2. -/
theorem softplus_zero : max (0 : EReal) 0 + Ideal.log1p (Ideal.exp (-(max (0 : EReal) (-0)))) = ((Real.log 2 : ℝ) : EReal) := by
  have h0 : Ideal.exp (0 : EReal) = ((1 : ℝ) : EReal) := by
    rw [show (0 : EReal) = ((0 : ℝ) : EReal) from rfl]; show ((Real.exp 0 : ℝ) : EReal) = _; rw [Real.exp_zero]
  rw [neg_zero, max_self, neg_zero, zero_add, h0]
  unfold Ideal.log1p
  rw [show (1 : EReal) + ((1 : ℝ) : EReal) = ((2 : ℝ) : EReal) by rw [show (1 : EReal) = ((1 : ℝ) : EReal) from rfl, ← EReal.coe_add]; norm_num]
  show (if (2 : ℝ) ≤ 0 then ⊥ else ((Real.log 2 : ℝ) : EReal)) = _
  rw [if_neg (by norm_num)]

/-! ## The balance term -/

/-- The squared coefficient of variation of eight values, as both programs compute it. -/
def cvsq (a : Fin 8 → EReal) : EReal :=
  Ideal.div
    (Ideal.div (∑ x, (a x - Ideal.div (∑ k, a k) (Ideal.ofBits .f32 1090519040#32)) * (a x - Ideal.div (∑ k, a k) (Ideal.ofBits .f32 1090519040#32)))
      (Ideal.ofBits .f32 1088421888#32))
    (Ideal.div (∑ k, a k) (Ideal.ofBits .f32 1090519040#32) * Ideal.div (∑ k, a k) (Ideal.ofBits .f32 1090519040#32) + Ideal.ofBits .f32 786163455#32)

/-- Eight values less one. -/
theorem eight_sub_one : Ideal.ofBits .f32 1090519040#32 - ((((1#32 : BitVec 32).toInt : ℝ)) : EReal) = Ideal.ofBits .f32 1088421888#32 := by
  rw [word_eight, word_seven, ← EReal.coe_sub, show (1#32 : BitVec 32).toInt = 1 by decide]; norm_num
theorem seven_pos : (0 : EReal) < Ideal.ofBits .f32 1088421888#32 := by
  rw [word_seven]; exact_mod_cast (by norm_num : (0 : ℝ) < 7)

end Cert.Proof.Moe

end
-- ==== Proof.Values.lean ====
/- The kernel's arithmetic at the extended reals, element by element: its softmax, its balance loss, its block of `y`. -/
module

public import proofs.«01_k».proof.Proof.Body
public import proofs.«01_k».proof.Proof.Softmax
public import Idealize.ShloMosaic.Lib.Pointwise

@[expose] public section

noncomputable section

namespace Cert.Proof.Moe

open Idealize.ShloMosaic Cert.KernelIdeal Cert.KernelIdeal.Gen

/-- The two named constants at the extended reals. -/
theorem named_ln2 : (Named.named (F := Ideal) κ "ln2" (φ := .f32) 1060205080#32 : EReal) = ((Real.log 2 : ℝ) : EReal) := rfl
theorem named_scale : (Named.named (F := Ideal) κ "gate_scale" (φ := .f32) 1065353199#32 : EReal) = (scale : EReal) := rfl

variable (v : Vec Ideal S8x4096 .f32)

/-- The kernel's softmax of token `n`, and the noise it is of. -/
def kNoise (n : Fin 4096) (e : Fin 8) : EReal := v (ix2 e n)
def kSoft (n : Fin 4096) (e : Fin 8) : EReal := k0_pay2 v (ix2 e n)

theorem kSoft_eq (n : Fin 4096) (e : Fin 8) :
    kSoft v n e = softmax8 (fun x => kNoise v n x * (((Real.log 2 : ℝ) : EReal) + Ideal.ofBits .f32 1008981770#32)) e := by
  unfold kSoft
  pointwise [k0_pay2]
  simp only [word_bot, named_ln2]
  rfl

/-- Each expert's count of tokens with a positive softmax; -/
def kLoad (e : Fin 8) : EReal := ∑ n, FloatOps.sitofp (F := Ideal) FTy.f32 (BitVec.setWidth 32 (BitVec.ofBool (decide (0 < kSoft v n e))))
/-- the sum of its gates. -/
def kImportance (e : Fin 8) : EReal := (∑ n, kSoft v n e) * (scale : EReal)

theorem pay3_at (e : Fin 8) (j : Fin 1) : (k0_pay3 v (ix2 e j) : EReal) = kLoad v e := by
  pointwise [k0_pay3]
  rfl

theorem pay4_at (i j : Fin 1) : (k0_pay4 v (ix2 i j) : EReal) = cvsq (kImportance v) := by
  pointwise [k0_pay4]
  simp only [named_scale]
  rfl

theorem lossOf_at (i j : Fin 1) : (lossOf v (ix2 i j) : EReal) = (cvsq (kImportance v) + cvsq (kLoad v)) * Ideal.ofBits .f32 1008981770#32 := by
  unfold lossOf
  pointwise [k0_pay7, k0_pay6, k0_pay5]
  simp only [pay3_at, pay4_at]
  rfl

/-- A trip's arithmetic at one element. -/
theorem pay1_at (a : Vec Ideal S1x512x1024 .f32) (b : Vec Ideal S1024x1024 .f32) (c : Vec Ideal S1x1024 .f32) (i : Fin 512) (j : Fin 1024) :
    (k0_pay1 a b c (ix3 0 i j) : EReal)
      = (∑ x, (a (ix3 0 i x) : EReal) * (b (ix2 j x) : EReal)) * (scale : EReal) + (c (ix2 0 j) : EReal) * (scale : EReal) := by
  pointwise [k0_pay1]
  simp only [named_scale]

end Cert.Proof.Moe

end
-- ==== Proof.Reading.lean ====
/- The kernel's blocks read as its arguments, and what its last line leaves. -/
module

public import proofs.«01_k».proof.Proof.Frames
public import proofs.«01_k».proof.Proof.Values
public import Idealize.ShloMosaic.Lib.Pipeline.ValueKit

@[expose] public section

noncomputable section

namespace Cert.Proof.Moe

open Cert.KernelIdeal Cert.KernelIdeal.Gen
open Idealize.ShloMosaic
open Idealize.ShloMosaic.TcCoe
open Idealize.SL Idealize.SL.Sem
open Idealize.ShloMosaic.Pipeline (Dat Cfg Window)

variable (m : (ℓ : Loc nD τ sig) → Buf (Elt Ideal) ℓ) (c : Dev nD)

/-- The arguments, element by element. -/
def kInput (i : Fin 4096) (x : Fin 1024) : EReal := m ((c : Thread nD τ).loc main_arg0) (ix2 i x)
def kWeight (j x : Fin 1024) : EReal := m ((c : Thread nD τ).loc main_arg3) (ix2 j x)
def kBias (j : Fin 1024) : EReal := m ((c : Thread nD τ).loc main_arg4) (ix1 j)
def kEps (n : Fin 4096) (e : Fin 8) : EReal := m ((c : Thread nD τ).loc main_arg5) (ix2 n e)

theorem index0 : ∀ t a, win0_0.index t a = 0 := by decide +kernel
theorem index1 : ∀ t a, win0_1.index t a = 0 := by decide +kernel
theorem index2 : ∀ t a, win0_2.index t a = 0 := by decide +kernel

theorem emb0 (y : S1024x1024.Idx) : (win0_0.blk t0_0).view.emb y = y := by blk_ext [index0]
theorem emb1 (y : S1x1024.Idx) : (win0_1.blk t0_0).view.emb y = y := by blk_ext [index1]
theorem emb2 (y : S8x4096.Idx) : (win0_2.blk t0_0).view.emb y = y := by blk_ext [index2]

/-- What the two host lines before the region leave: the bias as one row, the noise transposed. -/
theorem V_bias : V m c main_v0 = shapeCast S1x1024 (m ((c : Thread nD τ).loc main_arg4)) shapeCasts_S1024_S1x1024 := by
  unfold V V0
  simp only [hostOps0, List.flatten_cons, List.flatten_nil, List.append_nil]
  after_results_simp
  rfl
theorem V_eps : V m c main_v1 = transpose S8x4096 [1, 0] (m ((c : Thread nD τ).loc main_arg5)) transposes_S4096x8_S8x4096_1_0 := by
  unfold V V0
  simp only [hostOps0, List.flatten_cons, List.flatten_nil, List.append_nil]
  after_results_simp

theorem block0 (j x : Fin 1024) : (iblk m c 0 t0_0 (ix2 j x) : EReal) = kWeight m c j x := by
  blk_simp [iblk]
  exact (congrArg (V m c main_arg3) (emb0 (ix2 j x))).trans (congrFun (V_main_arg3 m c) (ix2 j x))
theorem block1 (j : Fin 1024) : (iblk m c 1 t0_0 (ix2 0 j) : EReal) = kBias m c j := by
  blk_simp [iblk]
  refine (congrArg (V m c main_v0) (emb1 (ix2 0 j))).trans ((congrFun (V_bias m c) (ix2 0 j)).trans ?_)
  unfold kBias
  pointwise
theorem block2 (n : Fin 4096) (e : Fin 8) : (iblk m c 2 t0_0 (ix2 e n) : EReal) = kEps m c n e := by
  blk_simp [iblk]
  refine (congrArg (V m c main_v1) (emb2 (ix2 e n))).trans ((congrFun (V_eps m c) (ix2 e n)).trans ?_)
  unfold kEps
  pointwise

/-- The window's array ends at the loss the one point leaves. -/
theorem arr3 : (dats m 0 c).arrAt 3 cfg0.N = lossG m c := by
  refine (dats m 0 c).arrAt_eq_of_after_last 3 t0_0 (by decide +kernel) _ fun j => ?_
  blk_simp
  exact congrFun (after_w3 m c t0_0) j

theorem shapeCast_point (w : S1x1.Idx → EReal) (j : S_.Idx) : shapeCast S_ w shapeCasts_S1x1_S_ j = w (ix2 0 0) := by
  pointwise

/-- The last line's result: the loss. -/
theorem lossEnd_at (j : S_.Idx) : (lossEnd m c j : EReal) = lossG m c (ix2 0 0) := by
  unfold lossEnd
  simp only [hostOps1, List.flatten_cons, List.flatten_nil, List.append_nil]
  after_results_simp
  refine (?_ : _ = Wend m c (Proc.devRef .tc main_v2_1) (ix2 0 0)).trans (congrFun (?_ : Wend m c (Proc.devRef .tc main_v2_1) = lossG m c) (ix2 0 0))
  · exact shapeCast_point (Wend m c (Proc.devRef .tc main_v2_1)) j
  · exact (Pipeline.withArrays_arr spec0 (by decide) c _ (fun w => (dats m 0 c).arrAt w cfg0.N) 3).trans (arr3 m c)

theorem shapeCast_row (w : S1x512x1024.Idx → EReal) (r : Fin 512) (j : Fin 1024) :
    shapeCast S512x1024 w shapeCasts_S1x512x1024_S512x1024 (ix2 r j) = w (ix3 0 r j) := by
  pointwise

/-- Block `b` of `x`, at one element. -/
theorem xblk_at (XA : S4096x1024.Idx → EReal) (b : Fin 8) (r : Fin 512) (x : Fin 1024) (i : Fin 4096) (h : i.val = 512 * b.val + r.val) :
    (shapeCast S1x512x1024 ((xblk b).view.read (Elt Ideal) XA) shapeCasts_S512x1024_S1x512x1024 (ix3 0 r x) : EReal) = XA (ix2 i x) := by
  pointwise
  refine congrArg XA ?_
  funext a
  match a with
  | ⟨0, _⟩ => exact Fin.ext (by show 512 * b.val + 1 * r.val = i.val; omega)
  | ⟨1, _⟩ => exact Fin.ext (by show 0 + 1 * x.val = x.val; omega)

/-- A block of `y`, at one element. -/
theorem payAt_at (XA : S4096x1024.Idx → EReal) (W1 : Vec Ideal S1024x1024 .f32) (W2 : Vec Ideal S1x1024 .f32) (b : Fin 8) (r : Fin 512) (j : Fin 1024)
    (i : Fin 4096) (h : i.val = 512 * b.val + r.val) :
    (payAt (F := Ideal) XA W1 W2 b (ix2 r j) : EReal)
      = (∑ x, XA (ix2 i x) * (W1 (ix2 j x) : EReal)) * (scale : EReal) + (W2 (ix2 0 j) : EReal) * (scale : EReal) := by
  refine (shapeCast_row (k0_pay1 _ W1 W2) r j).trans ((pay1_at _ W1 W2 r j).trans ?_)
  simp only [xblk_at XA b r _ i h]

/-- The kernel's `y` at one element. -/
theorem yG_at (i : Fin 4096) (j : Fin 1024) :
    (yG m c (ix2 i j) : EReal) = (∑ x, kInput m c i x * kWeight m c j x) * (scale : EReal) + kBias m c j * (scale : EReal) := by
  have hi := i.isLt
  have e : (ix2 (⟨i.val % 512, Nat.mod_lt _ (by decide)⟩ : Fin 512) j : S512x1024.Idx) = ValueIdx.ix2 (n0 := 512) (n1 := 1024) ⟨i.val % 512, Nat.mod_lt _ (by decide)⟩ j :=
    ix2_eq_valueIdx _ _
  show payAt (V m c main_arg0) (iblk m c 0 t0_0) (iblk m c 1 t0_0) ⟨i.val / 512, by omega⟩ (ValueIdx.ix2 (n0 := 512) (n1 := 1024) ⟨i.val % 512, Nat.mod_lt _ (by decide)⟩ j) = _
  rw [← e, payAt_at _ _ _ _ _ _ i (by show i.val = 512 * (i.val / 512) + i.val % 512; omega)]
  simp only [block0, block1]
  rw [V_main_arg0]
  rfl

end Cert.Proof.Moe

end
-- ==== Proof.Gates.lean ====
/- The reference's gates where both gate weights are zero and the noise is finite: each is its softmax scaled, whatever the
   order top_k finds the eight experts in. -/
module

public import proofs.«01_k».proof.Proof.Gen.ReferenceIdeal.Run
public import proofs.«01_k».proof.Proof.Softmax
public import Idealize.ShloMosaic.Lib.Pointwise
public import Idealize.ShloMosaic.Lib.SortFacts
public import Idealize.ShloMosaic.Lib.Routing.OpsSet
public import Idealize.ShloMosaic.Lib.Routing.OpsPair

@[expose] public section

noncomputable section

namespace Cert.Proof.Moe

open Idealize.ShloMosaic Cert.ReferenceIdeal Cert.ReferenceIdeal.Gen Cert.ReferenceIdeal.Value

attribute [local instance] Cert.ReferenceIdeal.Gen.facts

/-! ## top_k of every expert -/

/-- The order a row's experts are sorted in. -/
def order (x : S4096x8.Idx → EReal) (i : Fin 4096) : Fin 8 → Fin 8 :=
  sortedFrom fun k k' => (FloatOps.cmpfTotal (F := Ideal) (φ := .f32) .gt) (x (ix2 i k)) (x (ix2 i k')) == 1#1

theorem along_ix2 (i : Fin 4096) (k k' : Fin 8) : Shape.Idx.along (s := S4096x8) (ix2 i k) 1 k' = ix2 i k' := by
  funext a
  match a with
  | ⟨0, _⟩ => rfl
  | ⟨1, _⟩ => rfl

/-- The slice of a whole table from its start is the table. -/
theorem slice_whole {α : Type} (x : S4096x8.Idx → α) (j : S4096x8.Idx) : extractStridedSlice S4096x8 (fun _ => 0) x sliceFits_S4096x8_S4096x8 j = x j := by
  unfold extractStridedSlice
  refine congrArg x (funext fun a => Fin.ext ?_)
  simp

theorem order_along (x : S4096x8.Idx → EReal) (i : Fin 4096) (k : Fin 8) :
    sortedFrom (fun q q' => (FloatOps.cmpfTotal (F := Ideal) (φ := .f32) .gt) (x (Shape.Idx.along (s := S4096x8) (ix2 i k) 1 q))
      (x (Shape.Idx.along (s := S4096x8) (ix2 i k) 1 q')) == 1#1) k = order x i k :=
  congrArg (fun f => sortedFrom f k) (funext fun q => funext fun q' =>
    congrArg₂ (fun u v => (FloatOps.cmpfTotal (F := Ideal) (φ := .f32) .gt) (x u) (x v) == 1#1) (along_ix2 i k q) (along_ix2 i k q'))

theorem topK_value (x : S4096x8.Idx → EReal) (i : Fin 4096) (k : Fin 8) :
    (Host.topK S4096x8 1 (FloatOps.cmpfTotal (F := Ideal) (φ := .f32) .gt) x sliceFits_S4096x8_S4096x8).1 (ix2 i k) = x (ix2 i (order x i k)) := by
  unfold Host.topK
  dsimp only
  rw [slice_whole]
  unfold Host.sort2
  rw [dif_pos (show 1 < S4096x8.rank by decide)]
  exact (congrArg x (along_ix2 i k _)).trans (congrArg (fun q => x (ix2 i q)) (order_along x i k))

theorem topK_index (x : S4096x8.Idx → EReal) (i : Fin 4096) (k : Fin 8) :
    (Host.topK S4096x8 1 (FloatOps.cmpfTotal (F := Ideal) (φ := .f32) .gt) x sliceFits_S4096x8_S4096x8).2 (ix2 i k) = BitVec.ofNat 32 (order x i k).val := by
  unfold Host.topK
  dsimp only
  rw [slice_whole]
  unfold Host.sort2
  rw [dif_pos (show 1 < S4096x8.rank by decide)]
  exact (congrArg (fun j : S4096x8.Idx => BitVec.ofNat 32 (j 1).val) (along_ix2 i k _)).trans
    (congrArg (fun q : Fin 8 => BitVec.ofNat 32 q.val) (order_along x i k))

variable (V : Valuation τ sig (Elt Ideal))

/-- The noise, the softmax, the sorted values and the gates of row `i`, element by element. -/
def noiseAt (i : Fin 4096) (e : Fin 8) : EReal := V (Proc.tc.devRef main_arg5) (ix2 i e)
def softAt (i : Fin 4096) (e : Fin 8) : EReal := res_main_v17 V (ix2 i e)
def valueAt (i : Fin 4096) (k : Fin 8) : EReal := res_main_values V (ix2 i k)
def gateAt (i : Fin 4096) (e : Fin 8) : EReal := res_main_v41 V (ix2 i e)

/-- The order the reference's top_k finds the experts of row `i` in. -/
def orderAt (i : Fin 4096) : Fin 8 → Fin 8 := order (res_main_v17 V) i

theorem orderAt_bijective (i : Fin 4096) : Function.Bijective (orderAt V i) :=
  ⟨sortedFrom_injective _, sortedFrom_surjective _⟩

theorem valueAt_eq (i : Fin 4096) (k : Fin 8) : valueAt V i k = softAt V i (orderAt V i k) := by
  exact topK_value (res_main_v17 V) i k

theorem indices_at (i : Fin 4096) (k : Fin 8) : res_main_indices V (ix2 i k) = BitVec.ofNat 32 (orderAt V i k).val := by
  exact topK_index (res_main_v17 V) i k

/-- The sum of a row's values is the sum of its softmax. -/
theorem sum_values (i : Fin 4096) : ∑ k, valueAt V i k = ∑ e, softAt V i e := by
  simp only [valueAt_eq]
  exact Function.Bijective.sum_comp (orderAt_bijective V i) (softAt V i)

/-- The table of index words the gates are scattered by, from the rows' words and the experts'. -/
def landing (R : IVec S4096x1 32) (E : IVec S4096x8 32) : IVec S4096x8x2 32 :=
  concatenate S4096x8x2 2 [⟨S4096x8x1, (broadcastInDim S4096x8x1 ![0, 1] bcast_S4096x8_S4096x8x1_0_1 (broadcastInDim S4096x8 ![0, 1] bcast_S4096x1_S4096x8_0_1 R))⟩,
    ⟨S4096x8x1, (broadcastInDim S4096x8x1 ![0, 1] bcast_S4096x8_S4096x8x1_0_1 E)⟩] concatenates_S4096x8x1_S4096x8x1_S4096x8x2_d2

theorem landing_row (R : IVec S4096x1 32) (E : IVec S4096x8 32) (a : Fin 4096) (b : Fin 8) : landing R E (ix3 a b 0) = R (ix2 a 0) := by
  pointwise [landing]
theorem landing_expert (R : IVec S4096x1 32) (E : IVec S4096x8 32) (a : Fin 4096) (b : Fin 8) : landing R E (ix3 a b 1) = E (ix2 a b) := by
  pointwise [landing]

/-- The gates before they are scattered. -/
theorem updates_at (i : Fin 4096) (k : Fin 8) :
    Host.divf (res_main_values V) (broadcastInDim S4096x8 ![0, 1] bcast_S4096x1_S4096x8_0_1 (addf (broadcastInDim S4096x1 ![0] bcast_S4096_S4096x1_0 (Host.reduceAdd (res_main_values V) (constant S_ .f32 0x00000000#32) reducesTo_S4096x8_S4096_d1 h_S_)) (broadcastInDim S4096x1 ![] bcast_S_S4096x1 (constant S_ .f32 0x358637BD#32)))) (ix2 i k)
      = Ideal.div (valueAt V i k) ((∑ x, softAt V i x) + Ideal.ofBits .f32 897988541#32) := by
  rw [← sum_values]
  pointwise [valueAt]

/-- A word below 2^31 read signed. -/
theorem toInt_small (n : ℕ) (h : n < 4096) : (BitVec.ofNat 32 n).toInt = n := by
  rw [BitVec.toInt_eq_toNat_of_lt (by rw [BitVec.toNat_ofNat]; omega), BitVec.toNat_ofNat, Nat.mod_eq_of_lt (by omega)]

/-- The rows' words and the experts' words as the reference wraps them: none is negative. -/
theorem rows_at (i : Fin 4096) :
    select (cmpi .slt (res_main_v26 V) (broadcastInDim S4096x1 ![] bcast_S_S4096x1 (constantI S_ 32 0#32)))
      (addi (res_main_v26 V) (broadcastInDim S4096x1 ![] bcast_S_S4096x1 (constantI S_ 32 4096#32))) (res_main_v26 V) (ix2 i 0) = BitVec.ofNat 32 i.val := by
  have h : res_main_v26 V (ix2 i 0) = BitVec.ofNat 32 i.val := by
    unfold res_main_v26; rfl
  show Scalar.select (IntOp.cmpi .slt (res_main_v26 V (ix2 i 0)) 0#32) _ (res_main_v26 V (ix2 i 0)) = _
  rw [h]
  exact Routing.wrap_of_lt _ _ (by rw [BitVec.toNat_ofNat]; have := i.isLt; omega)

theorem experts_at (i : Fin 4096) (k : Fin 8) :
    select (cmpi .slt (res_main_indices V) (broadcastInDim S4096x8 ![] bcast_S_S4096x8 (constantI S_ 32 0#32)))
      (addi (res_main_indices V) (broadcastInDim S4096x8 ![] bcast_S_S4096x8 (constantI S_ 32 8#32))) (res_main_indices V) (ix2 i k)
      = BitVec.ofNat 32 (orderAt V i k).val := by
  show Scalar.select (IntOp.cmpi .slt (res_main_indices V (ix2 i k)) 0#32) _ (res_main_indices V (ix2 i k)) = _
  rw [indices_at]
  exact Routing.wrap_of_lt _ _ (by rw [BitVec.toNat_ofNat]; have := (orderAt V i k).isLt; omega)

/-- Update `(a, b)` lands at row `a`, at the expert sorted `b`-th. -/
theorem lands (a : Fin 4096) (b : Fin 8) (R : IVec S4096x1 32) (E : IVec S4096x8 32) (hR : ∀ a, R (ix2 a 0) = BitVec.ofNat 32 a.val)
    (hE : ∀ a b, E (ix2 a b) = BitVec.ofNat 32 (orderAt V a b).val) (i : Fin 4096) (e : Fin 8) :
    scatter_S4096x8_S4096x8x2_S4096x8_n_01_01_2.resultIdx? (ix2 a b) (landing R E) = some (ix2 i e) ↔ a = i ∧ orderAt V a b = e := by
  have key := Routing.scatter_lands2 scatter_S4096x8_S4096x8x2_S4096x8_n_01_01_2 rfl rfl rfl (landing R E) a b i e
  simp only [← ix2_eq_valueIdx, ← ix3_eq_valueIdx] at key
  refine key.trans ?_
  rw [landing_row, landing_expert, hR, hE, toInt_small _ a.isLt, toInt_small _ (by have := (orderAt V a b).isLt; omega)]
  constructor
  · rintro ⟨h1, h2⟩; exact ⟨Fin.ext (by exact_mod_cast h1), Fin.ext (by exact_mod_cast h2)⟩
  · rintro ⟨rfl, rfl⟩; exact ⟨rfl, rfl⟩

/-- A gate is its softmax over the row's sum with 1e-6 added. -/
theorem gateAt_eq (i : Fin 4096) (e : Fin 8) :
    gateAt V i e = Ideal.div (softAt V i e) ((∑ x, softAt V i x) + Ideal.ofBits .f32 897988541#32) := by
  obtain ⟨k, hk⟩ := (orderAt_bijective V i).2 e
  unfold gateAt res_main_v41
  refine Routing.scatter_set_hit _ _ (landing _ _) _ _ _ (fun u hu => ?_) (ix2 i k) ((lands V i k _ _ (rows_at V) (experts_at V) i e).2 ⟨rfl, hk⟩)
  obtain ⟨a, b, rfl⟩ : ∃ a b, u = ix2 a b := ⟨u 0, u 1, by funext q; match q with | ⟨0, _⟩ => rfl | ⟨1, _⟩ => rfl⟩
  obtain ⟨rfl, hb⟩ := (lands V a b _ _ (rows_at V) (experts_at V) i e).1 hu
  rw [updates_at, valueAt_eq, hb]

/-! ## The logits and their softmax -/

/-- The softmax of every row, as the reference computes it of its logits. -/
def expRows (x : FVec Ideal S4096x8 .f32) : FVec Ideal S4096x8 .f32 :=
  Host.exp (subf x (broadcastInDim S4096x8 ![0, 1] bcast_S4096x1_S4096x8_0_1 (broadcastInDim S4096x1 ![0] bcast_S4096_S4096x1_0 (maximumf (broadcastInDim S4096 ![] bcast_S_S4096 (constant S_ .f32 0xFF800000#32)) (Host.reduce FloatOps.maximumf x (constant S_ .f32 0xFF800000#32) reducesTo_S4096x8_S4096_d1 h_S_)))))
def softRows (x : FVec Ideal S4096x8 .f32) : FVec Ideal S4096x8 .f32 :=
  Host.divf (expRows x) (broadcastInDim S4096x8 ![0, 1] bcast_S4096x1_S4096x8_0_1 (broadcastInDim S4096x1 ![0] bcast_S4096_S4096x1_0 (Host.reduceAdd (expRows x) (constant S_ .f32 0x00000000#32) reducesTo_S4096x8_S4096_d1 h_S_)))

theorem softRows_at (x : FVec Ideal S4096x8 .f32) (i : Fin 4096) (e : Fin 8) : softRows x (ix2 i e) = softmax8 (fun q => x (ix2 i q)) e := by
  have hm : ∀ f : Fin 8 → EReal, max ⊥ (Finset.univ.fold max ⊥ f) = Finset.univ.fold max ⊥ f := fun f => max_eq_right bot_le
  pointwise [softRows, expRows]
  simp only [word_bot, hm]
  rfl

variable (hg : ∀ i j, V (Proc.tc.devRef main_arg1) (ix2 i j) = (0 : EReal)) (hn : ∀ i j, V (Proc.tc.devRef main_arg2) (ix2 i j) = (0 : EReal))
include hg hn

omit hg in
theorem v1_at (i : Fin 4096) (j : Fin 8) : res_main_v1 V (ix2 i j) = (0 : EReal) := by
  pointwise [res_main_v1, dot_S4096x1024_S1024x8_S4096x8_1_0_0_1_n_n]
  simp only [hn, mul_zero, Finset.sum_const_zero]

/-- The logits: the noise times softplus of zero with 0.01 added. -/
theorem v6_at (i : Fin 4096) (j : Fin 8) :
    res_main_v6 V (ix2 i j) = noiseAt V i j * (((Real.log 2 : ℝ) : EReal) + Ideal.ofBits .f32 1008981770#32) := by
  pointwise [res_main_v6, dot_S4096x1024_S1024x8_S4096x8_1_0_0_1_n_n, res_main_call0_v3, res_main_call0_cst]
  simp only [hg, mul_zero, Finset.sum_const_zero, zero_add, v1_at V hn, ne_eq, not_true_eq_false, if_false]
  rw [← softplus_zero]; rfl

theorem softAt_eq (i : Fin 4096) (e : Fin 8) :
    softAt V i e = softmax8 (fun x => noiseAt V i x * (((Real.log 2 : ℝ) : EReal) + Ideal.ofBits .f32 1008981770#32)) e := by
  refine (softRows_at (res_main_v6 V) i e).trans (congrArg (fun l => softmax8 l e) (funext fun x => v6_at V hg hn i x))

/-- At finite noise the softmax of a row is finite, positive, and sums to one. -/
theorem softAt_real (hf : ∀ i j, ∃ a : ℝ, noiseAt V i j = (a : EReal)) (i : Fin 4096) :
    ∃ p : Fin 8 → ℝ, (∀ e, 0 < p e) ∧ ∑ e, p e = 1 ∧ ∀ e, softAt V i e = (p e : EReal) := by
  obtain ⟨w, hw⟩ := word_real
  choose a ha using hf i
  obtain ⟨p, h0, h1, h⟩ := softmax8_real fun e => a e * (Real.log 2 + w)
  refine ⟨p, h0, h1, fun e => ?_⟩
  rw [softAt_eq V hg hn, ← h e, hw]
  refine congrArg (fun l => softmax8 l e) (funext fun x => ?_)
  rw [ha, EReal.coe_mul, EReal.coe_add]

/-- The gates of a row: the softmax scaled. -/
theorem gateAt_real (hf : ∀ i j, ∃ a : ℝ, noiseAt V i j = (a : EReal)) (i : Fin 4096) :
    ∃ p : Fin 8 → ℝ, (∀ e, 0 < p e) ∧ ∑ e, p e = 1 ∧ (∀ e, softAt V i e = (p e : EReal)) ∧ ∀ e, gateAt V i e = ((p e * scale : ℝ) : EReal) := by
  obtain ⟨p, h0, h1, h⟩ := softAt_real V hg hn hf i
  refine ⟨p, h0, h1, h, fun e => ?_⟩
  rw [gateAt_eq]
  simp only [h]
  rw [sum_real, h1, word_tiny, gate_real]

end Cert.Proof.Moe

end
-- ==== Proof.Results.lean ====
/- The reference's two results where both gate weights are zero and the noise is finite. -/
module

public import proofs.«01_k».proof.Proof.Gates

@[expose] public section

noncomputable section

namespace Cert.Proof.Moe

open Idealize.ShloMosaic Cert.ReferenceIdeal Cert.ReferenceIdeal.Gen Cert.ReferenceIdeal.Value

attribute [local instance] Cert.ReferenceIdeal.Gen.facts

variable (V : Valuation τ sig (Elt Ideal))

/-- The inputs, the expert's weights and its bias, and the shared expert's output, element by element. -/
def inputAt (i : Fin 4096) (x : Fin 1024) : EReal := V (Proc.tc.devRef main_arg0) (ix2 i x)
def weightAt (j x : Fin 1024) : EReal := V (Proc.tc.devRef main_arg3) (ix2 j x)
def biasAt (j : Fin 1024) : EReal := V (Proc.tc.devRef main_arg4) (ix1 j)
def expertAt (i : Fin 4096) (j : Fin 1024) : EReal := (∑ x, inputAt V i x * weightAt V j x) + biasAt V j

theorem v65_at (i : Fin 4096) (j : Fin 1024) : res_main_v65 V (ix2 i j) = expertAt V i j := by
  pointwise [res_main_v65, dot_S4096x1024_S1024x1024_S4096x1024_1_0_0_1_n_n, expertAt, inputAt, weightAt, biasAt]

set_option maxHeartbeats 1000000 in
theorem refY_sum (i : Fin 4096) (j : Fin 1024) : val2 V (Proc.devRef .tc main_v78) (ix2 i j) = ∑ e, expertAt V i j * gateAt V i e := by
  rw [val2_main_v78]
  pointwise
  simp only [v65_at, dite_eq_ite, ite_self]
  rfl

theorem refLoss_eq (j : S_.Idx) :
    val2 V (Proc.devRef .tc main_v60) j
      = (cvsq (fun e => ∑ n, gateAt V n e) + cvsq (fun e => ∑ n, FloatOps.uitofp (F := Ideal) FTy.f32 (BitVec.ofBool (decide (0 < gateAt V n e))))) * Ideal.ofBits FTy.f32 1008981770#32 := by
  have h46 : ∀ e, res_main_v46 V (ix1 e) = ∑ n, gateAt V n e := fun e => by
    pointwise [res_main_v46, gateAt]
  have h45 : ∀ e, res_main_v45 V (ix1 e) = ∑ n, FloatOps.uitofp (F := Ideal) FTy.f32 (BitVec.ofBool (decide (0 < gateAt V n e))) := fun e => by
    pointwise [res_main_v45, gateAt]
  have h1 : Ideal.ofBits FTy.f32 1090519040#32 - FloatOps.sitofp (F := Ideal) FTy.f32 1#32 = Ideal.ofBits .f32 1088421888#32 := eight_sub_one
  rw [val2_main_v60]
  pointwise [res_main_call1_v5, res_main_call1_v8, res_main_v49, res_main_call2_v5, res_main_call2_v8, res_main_v55]
  simp only [h46, h45, h1, if_pos seven_pos]
  rfl

end Cert.Proof.Moe

end
-- ==== Proof.Algebraic.lean ====
/- The two programs' results, equal at the extended reals where both gate weights are zero and the noise is finite. -/
module

public import proofs.«01_k».proof.Proof.Reading
public import proofs.«01_k».proof.Proof.Results
public import proofs.«01_k».proof.Proof.Exact
public import proofs.«01_k».proof.Pre_gates_zero_noise_finite

@[expose] public section

noncomputable section

namespace Cert.Proof.Moe

open Idealize.ShloMosaic
open Idealize.ShloMosaic.TcCoe
open Idealize.SL.Sem

/-! ## The two results, at equal arguments -/

section Equal

open Cert.ReferenceIdeal Cert.ReferenceIdeal.Gen Cert.ReferenceIdeal.Value

variable (V : Valuation τ sig (Elt Ideal))
variable (hg : ∀ i j, V (Proc.tc.devRef main_arg1) (ix2 i j) = (0 : EReal)) (hn : ∀ i j, V (Proc.tc.devRef main_arg2) (ix2 i j) = (0 : EReal))
variable (hf : ∀ i j, ∃ a : ℝ, noiseAt V i j = (a : EReal))
include hg hn hf

/-- The gates of a row sum to the scale, so the weighted sum of the one expert's output is that output scaled. -/
theorem refY_at (i : Fin 4096) (j : Fin 1024) :
    (val2 V (Proc.devRef .tc main_v78) (ix2 i j) : EReal)
      = (∑ x, inputAt V i x * weightAt V j x) * (scale : EReal) + biasAt V j * (scale : EReal) := by
  obtain ⟨p, h0, h1, -, h⟩ := gateAt_real V hg hn hf i
  rw [refY_sum]
  simp only [h]
  rw [sum_gates p h0 h1]
  unfold expertAt
  exact EReal.right_distrib_of_nonneg_of_ne_top (by exact_mod_cast scale_nonneg) (EReal.coe_ne_top _) _ _

variable (v : Vec Ideal Cert.KernelIdeal.S8x4096 .f32) (hv : ∀ n e, kNoise v n e = noiseAt V n e)
include hv

theorem soft_same (n : Fin 4096) (e : Fin 8) : kSoft v n e = softAt V n e := by
  rw [kSoft_eq, softAt_eq V hg hn]
  simp only [hv]

/-- Each expert's gates sum to its softmax summed, scaled. -/
theorem importance_same (e : Fin 8) : kImportance v e = ∑ n, gateAt V n e := by
  choose p h0 h1 hs h using gateAt_real V hg hn hf
  unfold kImportance
  simp only [soft_same V hg hn hf v hv, hs, h]
  rw [sum_real, sum_real, ← EReal.coe_mul, Finset.sum_mul]

/-- Every gate is positive, and so is its softmax. -/
theorem load_same (e : Fin 8) : kLoad v e = ∑ n, FloatOps.uitofp (F := Ideal) FTy.f32 (BitVec.ofBool (decide (0 < gateAt V n e))) := by
  choose p h0 h1 hs h using gateAt_real V hg hn hf
  unfold kLoad
  refine Finset.sum_congr rfl fun n _ => ?_
  have hp : (0 : EReal) < ((p n e : ℝ) : EReal) := by exact_mod_cast h0 n e
  have hq : (0 : EReal) < ((p n e * scale : ℝ) : EReal) := by exact_mod_cast mul_pos (h0 n e) (by unfold scale; norm_num)
  rw [soft_same V hg hn hf v hv, hs, h, decide_eq_true hp, decide_eq_true hq]
  show ((((BitVec.setWidth 32 (BitVec.ofBool true)).toInt : ℝ)) : EReal) = ((((BitVec.ofBool true).toNat : ℝ)) : EReal)
  rw [show (BitVec.setWidth 32 (BitVec.ofBool true)).toInt = 1 by decide, show (BitVec.ofBool true).toNat = 1 by decide]
  norm_num

theorem loss_same (j : S_.Idx) : (val2 V (Proc.devRef .tc main_v60) j : EReal) = Cert.Proof.Moe.lossOf v (ix2 0 0) := by
  rw [refLoss_eq, lossOf_at, funext (importance_same V hg hn hf v hv), funext (load_same V hg hn hf v hv)]

end Equal

/-! ## The precondition -/

/-- What the precondition's operations state of their shapes. -/
theorem preFacts : Cert.Pre_gates_zero_noise_finite.Facts where
  bcast_S_S1024x8 := by decide
  bcast_S_S4096x8 := by decide

theorem ofBool_one (p : Bool) : BitVec.ofBool p = 1#1 ↔ p = true := by cases p <;> decide

/-- A value whose absolute value is below infinity is a real. -/
theorem real_of_abs_lt (x : EReal) (h : max x (-x) < ⊤) : ∃ a : ℝ, x = (a : EReal) := by
  induction x using EReal.rec with
  | bot => simp at h
  | top => simp at h
  | coe a => exact ⟨a, rfl⟩

attribute [local instance] preFacts

open Cert.KernelIdeal in
/-- The precondition gives both gate weights zero and the noise finite. -/
theorem of_pre (m : (ℓ : Loc nD τ sig) → Buf (Elt Ideal) ℓ) (h : Cert.Pre_KernelIdeal_gates_zero_noise_finite m) (c : Dev nD) :
    (∀ i j, m ((c.tc : Thread nD τ).loc main_arg1) (ix2 i j) = (0 : EReal)) ∧ (∀ i j, m ((c.tc : Thread nD τ).loc main_arg2) (ix2 i j) = (0 : EReal))
      ∧ ∀ i j, ∃ a : ℝ, kEps m c i j = (a : EReal) := by
  obtain ⟨h1, h2, h3⟩ := h c
  refine ⟨fun i j => ?_, fun i j => ?_, fun i j => ?_⟩
  · have e := congrFun h1 (ix2 i j)
    have e' : BitVec.ofBool (decide ((m ((c.tc : Thread nD τ).loc main_arg1) (ix2 i j) : EReal) = Ideal.ofBits .f32 0#32)) = 1#1 := e
    rw [ofBool_one, decide_eq_true_eq, Ideal.ofBits_zero_f32] at e'
    exact e'
  · have e := congrFun h2 (ix2 i j)
    have e' : BitVec.ofBool (decide ((m ((c.tc : Thread nD τ).loc main_arg2) (ix2 i j) : EReal) = Ideal.ofBits .f32 0#32)) = 1#1 := e
    rw [ofBool_one, decide_eq_true_eq, Ideal.ofBits_zero_f32] at e'
    exact e'
  · have e := congrFun h3 (ix2 i j)
    have e' : BitVec.ofBool (decide (max (kEps m c i j) (-(kEps m c i j)) < Ideal.ofBits .f32 2139095040#32)) = 1#1 := e
    rw [ofBool_one, decide_eq_true_eq, word_top] at e'
    exact real_of_abs_lt _ e'

/-! ## The claim -/

attribute [local instance] Cert.ReferenceIdeal.Gen.facts in
open Cert.KernelIdeal in
/-- Both programs run, keep their arguments and end with equal results. -/
theorem algebraic : Cert.algebraic_KernelIdeal_ReferenceIdeal_pre_gates_zero_noise_finite := by
  intro m g m' g' hpre hargs
  refine ⟨fun c => yG m c, fun c => lossEnd m c, ?_, ?_⟩
  · exact (θ_run defs _ _).mono (fun r h c => ⟨(h.1.1 c).1, (h.1.1 c).2, h.1.2 c⟩) (run_named (F := Ideal) m g)
  · refine (θ_run Cert.ReferenceIdeal.defs _ _).mono (fun r h c => ?_) (Cert.ReferenceIdeal.Value.run (F := Ideal) m' g')
    obtain ⟨hy, hl, hk⟩ := h c
    obtain ⟨a0, a1, a2, a3, a4, a5⟩ := hargs c
    obtain ⟨p1, p2, p3⟩ := of_pre m hpre c
    have hg : ∀ i j, StableHlo.launchContents m' c (Proc.tc.devRef Cert.ReferenceIdeal.main_arg1) (ix2 i j) = (0 : EReal) := fun i j => (congrFun a1 (ix2 i j)).trans (p1 i j)
    have hn : ∀ i j, StableHlo.launchContents m' c (Proc.tc.devRef Cert.ReferenceIdeal.main_arg2) (ix2 i j) = (0 : EReal) := fun i j => (congrFun a2 (ix2 i j)).trans (p2 i j)
    have hv : ∀ n e, kNoise (Cert.KernelIdeal.Gen.iblk m c 2 Cert.KernelIdeal.Gen.t0_0) n e = noiseAt (StableHlo.launchContents m' c) n e := fun n e =>
      (block2 m c n e).trans (congrFun a5 (ix2 n e)).symm
    have hf : ∀ i j, ∃ a : ℝ, noiseAt (StableHlo.launchContents m' c) i j = (a : EReal) := fun i j => by
      obtain ⟨a, ha⟩ := p3 i j
      exact ⟨a, (congrFun a5 (ix2 i j)).trans ha⟩
    refine ⟨hy.trans ((Cert.ReferenceIdeal.Value.val2_main_v78 (StableHlo.launchContents m' c)).symm.trans (funext fun i => ?_)),
      hl.trans ((Cert.ReferenceIdeal.Value.val2_main_v60 (StableHlo.launchContents m' c)).symm.trans (funext fun j => ?_)), hk⟩
    · obtain ⟨a, b, rfl⟩ : ∃ (a : Fin 4096) (b : Fin 1024), i = ix2 a b := ⟨i 0, i 1, by funext q; match q with | ⟨0, _⟩ => rfl | ⟨1, _⟩ => rfl⟩
      refine (refY_at _ hg hn hf a b).trans ((yG_at m c a b).trans ?_).symm
      have e0 : ∀ x, inputAt (StableHlo.launchContents m' c) a x = kInput m c a x := fun x => congrFun a0 (ix2 a x)
      have e3 : ∀ x, weightAt (StableHlo.launchContents m' c) b x = kWeight m c b x := fun x => congrFun a3 (ix2 b x)
      have e4 : biasAt (StableHlo.launchContents m' c) b = kBias m c b := congrFun a4 (ix1 b)
      simp only [e0, e3, e4]
    · exact (loss_same _ hg hn hf (Cert.KernelIdeal.Gen.iblk m c 2 Cert.KernelIdeal.Gen.t0_0) hv j).trans (lossEnd_at m c j).symm

end Cert.Proof.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Exact
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims; a frame under the precondition is the frame without it. -/
theorem claim : Cert.Claim :=
  ⟨Cert.Kernel.Gen.facts, Cert.KernelIdeal.Gen.facts, Cert.ReferenceIdeal.Gen.facts, Moe.preFacts,
    Moe.frame_kernel, Moe.frame_kernelIdeal, fun m ρ _ => Moe.frame_kernelIdeal m ρ trivial, Moe.frame_referenceIdeal,
    fun m ρ _ => Moe.frame_referenceIdeal m ρ trivial, Moe.preserves, Moe.algebraic⟩

end Cert.Proof

end
